-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2)
      ∧ r.2.mem ((c.tc : Thread Cert.ShiftRefIdeal.nD Cert.ShiftRefIdeal.τ).loc Cert.ShiftRefIdeal.main_arg3) = m ((c.tc : Thread Cert.ShiftRefIdeal.nD Cert.ShiftRefIdeal.τ).loc Cert.ShiftRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)
      ∧ m' ((c.tc : Thread Cert.ShiftRefIdeal.nD Cert.ShiftRefIdeal.τ).loc Cert.ShiftRefIdeal.main_arg3) = m ((c.tc : Thread Cert.ShiftIdeal.nD Cert.ShiftIdeal.τ).loc Cert.ShiftIdeal.main_arg3)) →
    ∃ (v0 : (c : Dev Cert.ShiftIdeal.nD) → Buf (Elt Ideal) ((c.tc : Thread Cert.ShiftIdeal.nD Cert.ShiftIdeal.τ).loc Cert.ShiftIdeal.main_v10)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v10) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v27) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2)
          ∧ r.2.mem ((c.tc : Thread Cert.ShiftRefIdeal.nD Cert.ShiftRefIdeal.τ).loc Cert.ShiftRefIdeal.main_arg3) = m' ((c.tc : Thread Cert.ShiftRefIdeal.nD Cert.ShiftRefIdeal.τ).loc Cert.ShiftRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v9_0)) (v1 : (c : Dev Cert.OutProjIdeal.nD) → Buf (Elt Ideal) ((c.tc : Thread Cert.OutProjIdeal.nD Cert.OutProjIdeal.τ).loc Cert.OutProjIdeal.main_v9_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9_0) = v0 c
          ∧ r.2.mem ((c.tc : Thread Cert.OutProjIdeal.nD Cert.OutProjIdeal.τ).loc Cert.OutProjIdeal.main_v9_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_v21) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v5_0)) (v1 : (c : Dev Cert.RouteIdeal.nD) → Buf (Elt Ideal) ((c.tc : Thread Cert.RouteIdeal.nD Cert.RouteIdeal.τ).loc Cert.RouteIdeal.main_v5_1)) (v2 : (c : Dev Cert.RouteIdeal.nD) → Buf (Elt Ideal) ((c.tc : Thread Cert.RouteIdeal.nD Cert.RouteIdeal.τ).loc Cert.RouteIdeal.main_v5_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v5_0) = v0 c
          ∧ r.2.mem ((c.tc : Thread Cert.RouteIdeal.nD Cert.RouteIdeal.τ).loc Cert.RouteIdeal.main_v5_1) = v1 c
          ∧ r.2.mem ((c.tc : Thread Cert.RouteIdeal.nD Cert.RouteIdeal.τ).loc Cert.RouteIdeal.main_v5_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v16) = v0 c
          ∧ r.2.mem ((c.tc : Thread Cert.RouteRefIdeal.nD Cert.RouteRefIdeal.τ).loc Cert.RouteRefIdeal.main_v17) = v1 c
          ∧ r.2.mem ((c.tc : Thread Cert.RouteRefIdeal.nD Cert.RouteRefIdeal.τ).loc Cert.RouteRefIdeal.main_v18) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hShift : Cert.Shift.Facts) (hShiftIdeal : Cert.ShiftIdeal.Facts) (hShiftRefIdeal : Cert.ShiftRefIdeal.Facts) (hOutProj : Cert.OutProj.Facts) (hOutProjIdeal : Cert.OutProjIdeal.Facts) (hOutProjRefIdeal : Cert.OutProjRefIdeal.Facts) (hFinal : Cert.Final.Facts) (hFinalIdeal : Cert.FinalIdeal.Facts) (hFinalRefIdeal : Cert.FinalRefIdeal.Facts) (hRoute : Cert.Route.Facts) (hRouteIdeal : Cert.RouteIdeal.Facts) (hRouteRefIdeal : Cert.RouteRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Shift (hShift := hShift)
    ∧ quiescent_ShiftIdeal (hShiftIdeal := hShiftIdeal)
    ∧ quiescent_ShiftRefIdeal (hShiftRefIdeal := hShiftRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Final (hFinal := hFinal)
    ∧ quiescent_FinalIdeal (hFinalIdeal := hFinalIdeal)
    ∧ quiescent_FinalRefIdeal (hFinalRefIdeal := hFinalRefIdeal)
    ∧ quiescent_Route (hRoute := hRoute)
    ∧ quiescent_RouteIdeal (hRouteIdeal := hRouteIdeal)
    ∧ quiescent_RouteRefIdeal (hRouteRefIdeal := hRouteRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjRefIdeal (hProjIdeal := hProjIdeal) (hProjRefIdeal := hProjRefIdeal)
    ∧ preserves_Shift_ShiftIdeal
    ∧ algebraic_ShiftIdeal_ShiftRefIdeal (hShiftIdeal := hShiftIdeal) (hShiftRefIdeal := hShiftRefIdeal)
    ∧ preserves_OutProj_OutProjIdeal
    ∧ algebraic_OutProjIdeal_OutProjRefIdeal (hOutProjIdeal := hOutProjIdeal) (hOutProjRefIdeal := hOutProjRefIdeal)
    ∧ preserves_Final_FinalIdeal
    ∧ algebraic_FinalIdeal_FinalRefIdeal (hFinalIdeal := hFinalIdeal) (hFinalRefIdeal := hFinalRefIdeal)
    ∧ preserves_Route_RouteIdeal
    ∧ algebraic_RouteIdeal_RouteRefIdeal (hRouteIdeal := hRouteIdeal) (hRouteRefIdeal := hRouteRefIdeal)
-- ==== Pre_finite.lean ====
abbrev S32768x3072 : Shape := ⟨2, ![32768, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  bcast_S_S1x64 : S_.BroadcastsInDim S1x64 (![] : Fin 0 → Fin S1x64.rank)

variable [Facts]

def fn {F : FTy → Type} [FloatOps F] (main_arg0 : FVec F S32768x3072 .bf16) (main_arg1 : FVec F S1x64 .f32) (main_arg2 : FVec F S1x64 .f32) (main_arg3 : FVec F S1x64 .f32) (main_arg4 : FVec F S1x64 .f32) (main_arg5 : FVec F S1x128 .f32) : IVec S32768x3072 1 × IVec S1x64 1 × IVec S1x64 1 × IVec S1x64 1 × IVec S1x64 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Kernel.lean ====
abbrev S32768x3072 : Shape := ⟨2, ![32768, 3072]⟩
abbrev S1x64 : Shape := ⟨2, ![1, 64]⟩
abbrev S1x128 : Shape := ⟨2, ![1, 128]⟩
abbrev S32768x1024 : Shape := ⟨2, ![32768, 1024]⟩
abbrev S512x128 : Shape := ⟨2, ![512, 128]⟩
abbrev S8192x128 : Shape := ⟨2, ![8192, 128]⟩
abbrev S1x512 : Shape := ⟨2, ![1, 512]⟩
abbrev S512x1 : Shape := ⟨2, ![512, 1]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S32768x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S32768x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 8, 16], ![false, false, false]⟩

@[reducible] def k0_t1_loop (i : grid0.Coords) : Scf.Loop 32 :=
  let c0_i32 : BitVec 32 := 0#32
  let arg2 : BitVec 32 := BitVec.ofNat 32 (i 2).val
  let v26 : BitVec 32 := Scalar.subi arg2 c0_i32
  let c1_i32_7 : BitVec 32 := 1#32
  let v28 : BitVec 32 := Scalar.divsi v26 c1_i32_7
  let v29 : BitVec 32 := Scalar.muli v28 c1_i32_7
  let v30 : BitVec 32 := Scalar.addi c0_i32 v29
  let c1_i32_8 : BitVec 32 := 1#32
  ⟨c0_i32, v30, c1_i32_8⟩
def k0_mult1 (i : grid0.Coords) (k0_t1 : Fin (k0_t1_loop i).trips) : BitVec 32 :=
  let c0_i32 : BitVec 32 := 0#32
  let c1_i32_8 : BitVec 32 := 1#32
  let arg12 : BitVec 32 := Scf.iv c0_i32 c1_i32_8 k0_t1
  let c512_i32_42 : BitVec 32 := 512#32
  let v134 : BitVec 32 := Scalar.muli arg12 c512_i32_42
  v134
def k0_off1 (i : grid0.Coords) (k0_t1 : Fin (k0_t1_loop i).trips) : Fin 2 → Nat :=
  let c0_i32 : BitVec 32 := 0#32
  let c1_i32_8 : BitVec 32 := 1#32
  let arg12 : BitVec 32 := Scf.iv c0_i32 c1_i32_8 k0_t1
  let c512_i32_42 : BitVec 32 := 512#32
  let v134 : BitVec 32 := Scalar.muli arg12 c512_i32_42
  let v135 : BitVec 32 := v134
  let v136 : Index := Scalar.indexCast v135
  let c0_43 : Index := 0#32
  ![v136.toNat, 0]
@[reducible] def k0_t2_loop (i : grid0.Coords) : Scf.Loop 32 :=
  let c0_i32 : BitVec 32 := 0#32
  let arg2 : BitVec 32 := BitVec.ofNat 32 (i 2).val
  let v26 : BitVec 32 := Scalar.subi arg2 c0_i32
  let c1_i32_7 : BitVec 32 := 1#32
  let v28 : BitVec 32 := Scalar.divsi v26 c1_i32_7
  let v29 : BitVec 32 := Scalar.muli v28 c1_i32_7
  let v30 : BitVec 32 := Scalar.addi c0_i32 v29
  let v27 : BitVec 32 := Scalar.addi c0_i32 v26
  let c1_i32_9 : BitVec 32 := 1#32
  ⟨v30, v27, c1_i32_9⟩
def k0_mult2 (i : grid0.Coords) (k0_t2 : Fin (k0_t2_loop i).trips) : BitVec 32 :=
  let c0_i32 : BitVec 32 := 0#32
  let arg2 : BitVec 32 := BitVec.ofNat 32 (i 2).val
  let v26 : BitVec 32 := Scalar.subi arg2 c0_i32
  let c1_i32_7 : BitVec 32 := 1#32
  let v28 : BitVec 32 := Scalar.divsi v26 c1_i32_7
  let v29 : BitVec 32 := Scalar.muli v28 c1_i32_7
  let v30 : BitVec 32 := Scalar.addi c0_i32 v29
  let c1_i32_9 : BitVec 32 := 1#32
  let arg12 : BitVec 32 := Scf.iv v30 c1_i32_9 k0_t2
  let c512_i32_42 : BitVec 32 := 512#32
  let v134 : BitVec 32 := Scalar.muli arg12 c512_i32_42
  v134
def k0_off2 (i : grid0.Coords) (k0_t2 : Fin (k0_t2_loop i).trips) : Fin 2 → Nat :=
  let c0_i32 : BitVec 32 := 0#32
  let arg2 : BitVec 32 := BitVec.ofNat 32 (i 2).val
  let v26 : BitVec 32 := Scalar.subi arg2 c0_i32
  let c1_i32_7 : BitVec 32 := 1#32
  let v28 : BitVec 32 := Scalar.divsi v26 c1_i32_7
  let v29 : BitVec 32 := Scalar.muli v28 c1_i32_7
  let v30 : BitVec 32 := Scalar.addi c0_i32 v29
  let c1_i32_9 : BitVec 32 := 1#32
  let arg12 : BitVec 32 := Scf.iv v30 c1_i32_9 k0_t2
  let c512_i32_42 : BitVec 32 := 512#32
  let v134 : BitVec 32 := Scalar.muli arg12 c512_i32_42
  let v135 : BitVec 32 := v134
  let v136 : Index := Scalar.indexCast v135
  let c0_43 : Index := 0#32
  ![v136.toNat, 0]
def k0_mult3 (i : grid0.Coords) : BitVec 32 :=
  let arg2 : BitVec 32 := BitVec.ofNat 32 (i 2).val
  let c512_i32 : BitVec 32 := 512#32
  let v33 : BitVec 32 := Scalar.muli arg2 c512_i32
  v33
def k0_off3 (i : grid0.Coords) : Fin 2 → Nat :=
  let arg2 : BitVec 32 := BitVec.ofNat 32 (i 2).val
  let c512_i32 : BitVec 32 := 512#32
  let v33 : BitVec 32 := Scalar.muli arg2 c512_i32
  let v34 : BitVec 32 := v33
  let v35 : Index := Scalar.indexCast v34
  let c0_10 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x3072 : Shape := ⟨2, ![32768, 3072]⟩
abbrev S1x64 : Shape := ⟨2, ![1, 64]⟩
abbrev S1x128 : Shape := ⟨2, ![1, 128]⟩
abbrev S4x8192x3072 : Shape := ⟨3, ![4, 8192, 3072]⟩
abbrev S4x8192x1024 : Shape := ⟨3, ![4, 8192, 1024]⟩
abbrev S4x8192x8x2x64 : Shape := ⟨5, ![4, 8192, 8, 2, 64]⟩
abbrev S_ : Shape := ⟨0, ![]⟩
abbrev S4x8192x8x128 : Shape := ⟨4, ![4, 8192, 8, 128]⟩
abbrev S64 : Shape := ⟨1, ![64]⟩
abbrev S8 : Shape := ⟨1, ![8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8x2x8192x8192 : Shape := ⟨5, ![4, 8, 2, 8192, 8192]⟩
abbrev S8x1x1x1 : Shape := ⟨4, ![8, 1, 1, 1]⟩
abbrev S1x1x8192x8192 : Shape := ⟨4, ![1, 1, 8192, 8192]⟩
abbrev S8x1x8192x8192 : Shape := ⟨4, ![8, 1, 8192, 8192]⟩
abbrev S1x8x1x8192x8192 : Shape := ⟨5, ![1, 8, 1, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S128 : Shape := ⟨1, ![128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S32768x1024 : Shape := ⟨2, ![32768, 1024]⟩

abbrev nBuf : Space → Nat
  | .hbm => 112
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S32768x3072, .f32⟩
  | .hbm, ⟨7, _⟩ => ⟨S4x8192x3072, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x8x2x64, .f32⟩
  | .hbm, ⟨12, _⟩ => ⟨S_, .f32⟩
  | .hbm, ⟨13, _⟩ => ⟨S4x8192x8x2x64, .f32⟩
  | .hbm, ⟨14, _⟩ => ⟨S4x8192x8x2x64, .f32⟩
  | .hbm, ⟨15, _⟩ => ⟨S4x8192x8x2x64, .f32⟩
  | .hbm, ⟨16, _⟩ => ⟨S4x8192x8x128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8192, .i32⟩
  | .hbm, ⟨43, _⟩ => ⟨S8192, .i32⟩
  | .hbm, ⟨44, _⟩ => ⟨S8192x1, .i32⟩
  | .hbm, ⟨45, _⟩ => ⟨S1x8192, .i32⟩
  | .hbm, ⟨46, _⟩ => ⟨S8192x8192, .i32⟩
  | .hbm, ⟨47, _⟩ => ⟨S8192x8192, .i32⟩
  | .hbm, ⟨48, _⟩ => ⟨S8192x8192, .i32⟩
  | .hbm, ⟨49, _⟩ => ⟨S4x8x2x8192x8192, .f32⟩
  | .hbm, ⟨50, _⟩ => ⟨S8x1x1x1, .f32⟩
  | .hbm, ⟨51, _⟩ => ⟨S8192x8192, .f32⟩
  | .hbm, ⟨52, _⟩ => ⟨S1x1x8192x8192, .f32⟩
  | .hbm, ⟨53, _⟩ => ⟨S8x1x8192x8192, .f32⟩
  | .hbm, ⟨54, _⟩ => ⟨S8x1x8192x8192, .f32⟩
  | .hbm, ⟨55, _⟩ => ⟨S8x1x8192x8192, .f32⟩
  | .hbm, ⟨56, _⟩ => ⟨S1x8x1x8192x8192, .f32⟩
  | .hbm, ⟨57, _⟩ => ⟨S4x8x2x8192x8192, .f32⟩
  | .hbm, ⟨58, _⟩ => ⟨S4x8x2x8192x8192, .f32⟩
  | .hbm, ⟨59, _⟩ => ⟨S_, .i32⟩
  | .hbm, ⟨60, _⟩ => ⟨S8192x8192, .i32⟩
  | .hbm, ⟨61, _⟩ => ⟨S8192x8192, .i1⟩
  | .hbm, ⟨62, _⟩ => ⟨S_, .f32⟩
  | .hbm, ⟨63, _⟩ => ⟨S_, .f32⟩
  | .hbm, ⟨64, _⟩ => ⟨S4x8x2x8192x8192, .i1⟩
  | .hbm, ⟨65, _⟩ => ⟨S4x8x2x8192x8192, .f32⟩
  | .hbm, ⟨66, _⟩ => ⟨S4x8x2x8192x8192, .f32⟩
  | .hbm, ⟨67, _⟩ => ⟨S_, .f32⟩
  | .hbm, ⟨68, _⟩ => ⟨S4x8x2x8192, .f32⟩
  | .hbm, ⟨69, _⟩ => ⟨S_, .f32⟩
  | .hbm, ⟨70, _⟩ => ⟨S4x8x2x8192, .f32⟩
  | .hbm, ⟨71, _⟩ => ⟨S4x8x2x8192, .f32⟩
  | .hbm, ⟨72, _⟩ => ⟨S4x8x2x8192x1, .f32⟩
  | .hbm, ⟨73, _⟩ => ⟨S4x8x2x8192x8192, .f32⟩
  | .hbm, ⟨74, _⟩ => ⟨S4x8x2x8192x8192, .f32⟩
  | .hbm, ⟨75, _⟩ => ⟨S4x8x2x8192x8192, .f32⟩
  | .hbm, ⟨76, _⟩ => ⟨S_, .f32⟩
  | .hbm, ⟨77, _⟩ => ⟨S4x8x2x8192, .f32⟩
  | .hbm, ⟨78, _⟩ => ⟨S4x8x2x8192x1, .f32⟩
  | .hbm, ⟨79, _⟩ => ⟨S4x8x2x8192x8192, .f32⟩
  | .hbm, ⟨80, _⟩ => ⟨S4x8x2x8192x8192, .f32⟩
  | .hbm, ⟨81, _⟩ => ⟨S4x8x1x8192x8192, .f32⟩
  | .hbm, ⟨82, _⟩ => ⟨S4x8x8192x8192, .f32⟩
  | .hbm, ⟨83, _⟩ => ⟨S4x8x1x8192x8192, .f32⟩
  | .hbm, ⟨84, _⟩ => ⟨S4x8x8192x8192, .f32⟩
  | .hbm, ⟨85, _⟩ => ⟨S4x8x8192x8192, .f32⟩
  | .hbm, ⟨86, _⟩ => ⟨S4x8x8192x8192, .f32⟩
  | .hbm, ⟨87, _⟩ => ⟨S4x8x8192x8192, .f32⟩
  | .hbm, ⟨88, _⟩ => ⟨S4x8x128x8192, .f32⟩
  | .hbm, ⟨89, _⟩ => ⟨S4x8192x8x128, .f32⟩
  | .hbm, ⟨90, _⟩ => ⟨S128, .f32⟩
  | .hbm, ⟨91, _⟩ => ⟨S4x8192x8x128, .f32⟩
  | .hbm, ⟨92, _⟩ => ⟨S_, .f32⟩
  | .hbm, ⟨93, _⟩ => ⟨S4x8192x8, .f32⟩
  | .hbm, ⟨94, _⟩ => ⟨S4x8192x8x1, .f32⟩
  | .hbm, ⟨95, _⟩ => ⟨S_, .f32⟩
  | .hbm, ⟨96, _⟩ => ⟨S4x8192x8x1, .f32⟩
  | .hbm, ⟨97, _⟩ => ⟨S4x8192x8x1, .f32⟩
  | .hbm, ⟨98, _⟩ => ⟨S_, .f32⟩
  | .hbm, ⟨99, _⟩ => ⟨S4x8192x8x1, .f32⟩
  | .hbm, ⟨100, _⟩ => ⟨S4x8192x8x1, .f32⟩
  | .hbm, ⟨101, _⟩ => ⟨S4x8192x8x1, .f32⟩
  | .hbm, ⟨102, _⟩ => ⟨S4x8192x8x128, .f32⟩
  | .hbm, ⟨103, _⟩ => ⟨S4x8192x8x128, .f32⟩
  | .hbm, ⟨104, _⟩ => ⟨S1x1x1x128, .f32⟩
  | .hbm, ⟨105, _⟩ => ⟨S4x8192x8x128, .f32⟩
  | .hbm, ⟨106, _⟩ => ⟨S4x8192x8x128, .f32⟩
  | .hbm, ⟨107, _⟩ => ⟨S_, .f32⟩
  | .hbm, ⟨108, _⟩ => ⟨S4x8192x8x128, .f32⟩
  | .hbm, ⟨109, _⟩ => ⟨S4x8192x8x128, .f32⟩
  | .hbm, ⟨110, _⟩ => ⟨S32768x1024, .f32⟩
  | .hbm, ⟨111, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Proj.lean ====
abbrev S4x8192x2048 : Shape := ⟨3, ![4, 8192, 2048]⟩
abbrev S1x2048 : Shape := ⟨2, ![1, 2048]⟩
abbrev S1x2048x6432 : Shape := ⟨3, ![1, 2048, 6432]⟩
abbrev S2048x6432 : Shape := ⟨2, ![2048, 6432]⟩
abbrev S2048x3072 : Shape := ⟨2, ![2048, 3072]⟩
abbrev S32768x2048 : Shape := ⟨2, ![32768, 2048]⟩
abbrev S2048 : Shape := ⟨1, ![2048]⟩
abbrev S32768x3072 : Shape := ⟨2, ![32768, 3072]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x6432, .f32⟩
  | .hbm, ⟨3, _⟩ => ⟨S2048x6432, .f32⟩
  | .hbm, ⟨4, _⟩ => ⟨S2048x3072, .f32⟩
  | .hbm, ⟨5, _⟩ => ⟨S2048x3072, .bf16⟩
  | .hbm, ⟨6, _⟩ => ⟨S32768x2048, .f32⟩
  | .hbm, ⟨7, _⟩ => ⟨S2048, .f32⟩
  | .hbm, ⟨8, _⟩ => ⟨S1x2048, .f32⟩
  | .hbm, ⟨9, _⟩ => ⟨S32768x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S4x8192x2048 : Shape := ⟨3, ![4, 8192, 2048]⟩
abbrev S1x2048 : Shape := ⟨2, ![1, 2048]⟩
abbrev S1x2048x6432 : Shape := ⟨3, ![1, 2048, 6432]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x6432 : Shape := ⟨2, ![2048, 6432]⟩
abbrev S4x8192x6432 : Shape := ⟨3, ![4, 8192, 6432]⟩
abbrev S4x8192x3072 : Shape := ⟨3, ![4, 8192, 3072]⟩
abbrev S32768x3072 : Shape := ⟨2, ![32768, 3072]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x6432, .f32⟩
  | .hbm, ⟨3, _⟩ => ⟨S2048, .f32⟩
  | .hbm, ⟨4, _⟩ => ⟨S4x8192x2048, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x2048, .f32⟩
  | .hbm, ⟨16, _⟩ => ⟨S4x8192x2048, .f32⟩
  | .hbm, ⟨17, _⟩ => ⟨S1x1x2048, .f32⟩
  | .hbm, ⟨18, _⟩ => ⟨S4x8192x2048, .f32⟩
  | .hbm, ⟨19, _⟩ => ⟨S4x8192x2048, .f32⟩
  | .hbm, ⟨20, _⟩ => ⟨S2048x6432, .f32⟩
  | .hbm, ⟨21, _⟩ => ⟨S4x8192x6432, .f32⟩
  | .hbm, ⟨22, _⟩ => ⟨S4x8192x3072, .f32⟩
  | .hbm, ⟨23, _⟩ => ⟨S32768x3072, .f32⟩
  | .hbm, ⟨24, _⟩ => ⟨S32768x3072, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Shift.lean ====
abbrev S4x8192x2048 : Shape := ⟨3, ![4, 8192, 2048]⟩
abbrev S1x2048 : Shape := ⟨2, ![1, 2048]⟩
abbrev S1x2048x6432 : Shape := ⟨3, ![1, 2048, 6432]⟩
abbrev S1x3360 : Shape := ⟨2, ![1, 3360]⟩
abbrev S2048x6432 : Shape := ⟨2, ![2048, 6432]⟩
abbrev S2048x3360 : Shape := ⟨2, ![2048, 3360]⟩
abbrev S_ : Shape := ⟨0, ![]⟩
abbrev S2048x3456 : Shape := ⟨2, ![2048, 3456]⟩
abbrev S3360 : Shape := ⟨1, ![3360]⟩
abbrev S1x3456 : Shape := ⟨2, ![1, 3456]⟩
abbrev S32768x2048 : Shape := ⟨2, ![32768, 2048]⟩
abbrev S2048 : Shape := ⟨1, ![2048]⟩
abbrev S32768x3456 : Shape := ⟨2, ![32768, 3456]⟩
abbrev S512x2048 : Shape := ⟨2, ![512, 2048]⟩
abbrev S2048x1152 : Shape := ⟨2, ![2048, 1152]⟩
abbrev S1x1152 : Shape := ⟨2, ![1, 1152]⟩
abbrev S512x1152 : Shape := ⟨2, ![512, 1152]⟩
abbrev S3x8x1152 : Shape := ⟨3, ![3, 8, 1152]⟩
abbrev S512 : Shape := ⟨1, ![512]⟩
abbrev S512x1 : Shape := ⟨2, ![512, 1]⟩
abbrev S8x1152 : Shape := ⟨2, ![8, 1152]⟩
abbrev S1x8x1152 : Shape := ⟨3, ![1, 8, 1152]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x6432, .f32⟩
  | .hbm, ⟨3, _⟩ => ⟨S1x3360, .f32⟩
  | .hbm, ⟨4, _⟩ => ⟨S2048x6432, .f32⟩
  | .hbm, ⟨5, _⟩ => ⟨S2048x3360, .f32⟩
  | .hbm, ⟨6, _⟩ => ⟨S_, .i32⟩
  | .hbm, ⟨7, _⟩ => ⟨S_, .f32⟩
  | .hbm, ⟨8, _⟩ => ⟨S2048x3456, .f32⟩
  | .hbm, ⟨9, _⟩ => ⟨S2048x3456, .bf16⟩
  | .hbm, ⟨10, _⟩ => ⟨S3360, .f32⟩
  | .hbm, ⟨11, _⟩ => ⟨S1x3360, .f32⟩
  | .hbm, ⟨12, _⟩ => ⟨S_, .i32⟩
  | .hbm, ⟨13, _⟩ => ⟨S_, .f32⟩
  | .hbm, ⟨14, _⟩ => ⟨S1x3456, .f32⟩
  | .hbm, ⟨15, _⟩ => ⟨S32768x2048, .f32⟩
  | .hbm, ⟨16, _⟩ => ⟨S2048, .f32⟩
  | .hbm, ⟨17, _⟩ => ⟨S1x2048, .f32⟩
  | .hbm, ⟨18, _⟩ => ⟨S32768x3456, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S1x1152, .f32⟩
  | .local _ .vmem, ⟨6, _⟩ => ⟨S1x1152, .f32⟩
  | .local _ .vmem, ⟨7, _⟩ => ⟨S512x1152, .bf16⟩
  | .local _ .vmem, ⟨8, _⟩ => ⟨S512x1152, .bf16⟩
  | .local _ .vmem, ⟨9, _⟩ => ⟨S512x2048, .bf16⟩
  | .local _ .vmem, ⟨10, _⟩ => ⟨S3x8x1152, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 3], ![false, false]⟩

def k0_cond2 (i : grid0.Coords) : BitVec 1 :=
  let arg0 : BitVec 32 := BitVec.ofNat 32 (i 0).val
  let c16_i32 : BitVec 32 := 16#32
  let c0_i32_1 : BitVec 32 := 0#32
  let v3 : BitVec 1 := Scalar.cmpi .eq c16_i32 c0_i32_1
  let c1_i32 : BitVec 32 := 1#32
  let v4 : BitVec 32 := Scalar.select v3 c1_i32 c16_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v45 : Index := Scalar.indexCast arg1
  let c0_21 : Index := 0#32
  let c0_22 : Index := 0#32
  ![v45.toNat, 0, 0]
def k0_off2 (i : grid0.Coords) : Fin 3 → Nat :=
  let arg1 : BitVec 32 := BitVec.ofNat 32 (i 1).val
  let v24 : Index := Scalar.indexCast arg1
  let c0_12 : Index := 0#32
  let c0_13 : Index := 0#32
  ![v24.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShiftRefIdeal.lean ====
abbrev S4x8192x2048 : Shape := ⟨3, ![4, 8192, 2048]⟩
abbrev S1x2048 : Shape := ⟨2, ![1, 2048]⟩
abbrev S1x2048x6432 : Shape := ⟨3, ![1, 2048, 6432]⟩
abbrev S1x3360 : Shape := ⟨2, ![1, 3360]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x6432 : Shape := ⟨2, ![2048, 6432]⟩
abbrev S4x8192x6432 : Shape := ⟨3, ![4, 8192, 6432]⟩
abbrev S4x8192x3360 : Shape := ⟨3, ![4, 8192, 3360]⟩
abbrev S4x8193x3360 : Shape := ⟨3, ![4, 8193, 3360]⟩
abbrev S3360 : Shape := ⟨1, ![3360]⟩
abbrev S1x1x3360 : Shape := ⟨3, ![1, 1, 3360]⟩
abbrev S32768x3360 : Shape := ⟨2, ![32768, 3360]⟩
abbrev S32768x3456 : Shape := ⟨2, ![32768, 3456]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x6432, .f32⟩
  | .hbm, ⟨3, _⟩ => ⟨S1x3360, .f32⟩
  | .hbm, ⟨4, _⟩ => ⟨S2048, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S2048x6432, .f32⟩
  | .hbm, ⟨22, _⟩ => ⟨S4x8192x6432, .f32⟩
  | .hbm, ⟨23, _⟩ => ⟨S4x8192x3360, .f32⟩
  | .hbm, ⟨24, _⟩ => ⟨S_, .i32⟩
  | .hbm, ⟨25, _⟩ => ⟨S_, .f32⟩
  | .hbm, ⟨26, _⟩ => ⟨S4x8193x3360, .f32⟩
  | .hbm, ⟨27, _⟩ => ⟨S4x8192x3360, .f32⟩
  | .hbm, ⟨28, _⟩ => ⟨S4x8192x3360, .f32⟩
  | .hbm, ⟨29, _⟩ => ⟨S3360, .f32⟩
  | .hbm, ⟨30, _⟩ => ⟨S1x1x3360, .f32⟩
  | .hbm, ⟨31, _⟩ => ⟨S4x8192x3360, .f32⟩
  | .hbm, ⟨32, _⟩ => ⟨S4x8192x3360, .f32⟩
  | .hbm, ⟨33, _⟩ => ⟨S4x8192x3360, .f32⟩
  | .hbm, ⟨34, _⟩ => ⟨S32768x3360, .f32⟩
  | .hbm, ⟨35, _⟩ => ⟨S_, .i32⟩
  | .hbm, ⟨36, _⟩ => ⟨S_, .f32⟩
  | .hbm, ⟨37, _⟩ => ⟨S32768x3456, .f32⟩
  | .hbm, ⟨38, _⟩ => ⟨S32768x3456, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== OutProj.lean ====
abbrev S4x8192x2048 : Shape := ⟨3, ![4, 8192, 2048]⟩
abbrev S32768x1024 : Shape := ⟨2, ![32768, 1024]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S1024x2048 : Shape := ⟨2, ![1024, 2048]⟩
abbrev S2048 : Shape := ⟨1, ![2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x8192x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S1x2048, .f32⟩
  | .hbm, ⟨5, _⟩ => ⟨S32768x2048, .f32⟩
  | .hbm, ⟨6, _⟩ => ⟨S2048x2048, .f32⟩
  | .hbm, ⟨7, _⟩ => ⟨S1024x2048, .f32⟩
  | .hbm, ⟨8, _⟩ => ⟨S1024x2048, .bf16⟩
  | .hbm, ⟨9, _⟩ => ⟨S2048x2048, .f32⟩
  | .hbm, ⟨10, _⟩ => ⟨S1024x2048, .f32⟩
  | .hbm, ⟨11, _⟩ => ⟨S1024x2048, .bf16⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S4x8192x2048 : Shape := ⟨3, ![4, 8192, 2048]⟩
abbrev S32768x1024 : Shape := ⟨2, ![32768, 1024]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S1x2048, .f32⟩
  | .hbm, ⟨5, _⟩ => ⟨S32768x1024, .f32⟩
  | .hbm, ⟨6, _⟩ => ⟨S32768x1024, .f32⟩
  | .hbm, ⟨7, _⟩ => ⟨S32768x2048, .f32⟩
  | .hbm, ⟨8, _⟩ => ⟨S32768x2048, .f32⟩
  | .hbm, ⟨9, _⟩ => ⟨S2048x2048, .f32⟩
  | .hbm, ⟨10, _⟩ => ⟨S32768x2048, .f32⟩
  | .hbm, ⟨11, _⟩ => ⟨S32768x2048, .f32⟩
  | .hbm, ⟨12, _⟩ => ⟨S2048, .f32⟩
  | .hbm, ⟨13, _⟩ => ⟨S32768x2048, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S32768x2048, .f32⟩
  | .hbm, ⟨29, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Final.lean ====
abbrev S32768x2048 : Shape := ⟨2, ![32768, 2048]⟩
abbrev S2048x32768 : Shape := ⟨2, ![2048, 32768]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x32768, .f32⟩
  | .hbm, ⟨2, _⟩ => ⟨S2048, .f32⟩
  | .hbm, ⟨3, _⟩ => ⟨S1x2048, .f32⟩
  | .hbm, ⟨4, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S32768x2048 : Shape := ⟨2, ![32768, 2048]⟩
abbrev S2048x32768 : Shape := ⟨2, ![2048, 32768]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x32768, .f32⟩
  | .hbm, ⟨2, _⟩ => ⟨S2048, .f32⟩
  | .hbm, ⟨3, _⟩ => ⟨S32768x2048, .f32⟩
  | .hbm, ⟨4, _⟩ => ⟨S32768x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Route.lean ====
abbrev S32768x2048 : Shape := ⟨2, ![32768, 2048]⟩
abbrev S1x2048x2048 : Shape := ⟨3, ![1, 2048, 2048]⟩
abbrev S1x8x2x128x128 : Shape := ⟨5, ![1, 8, 2, 128, 128]⟩
abbrev S8x2x128x128 : Shape := ⟨4, ![8, 2, 128, 128]⟩
abbrev S16x128x128 : Shape := ⟨3, ![16, 128, 128]⟩
abbrev S2048x2048 : Shape := ⟨2, ![2048, 2048]⟩
abbrev S8x128x32768 : Shape := ⟨3, ![8, 128, 32768]⟩
abbrev S8x32768 : Shape := ⟨2, ![8, 32768]⟩
abbrev S256x2048 : Shape := ⟨2, ![256, 2048]⟩
abbrev S8x128x256 : Shape := ⟨3, ![8, 128, 256]⟩
abbrev S8x256 : Shape := ⟨2, ![8, 256]⟩
abbrev S16x128x256 : Shape := ⟨3, ![16, 128, 256]⟩
abbrev S56x256 : Shape := ⟨2, ![56, 256]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S256 : Shape := ⟨1, ![256]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S1x8x2x128x128, .f32⟩
  | .hbm, ⟨3, _⟩ => ⟨S8x2x128x128, .f32⟩
  | .hbm, ⟨4, _⟩ => ⟨S16x128x128, .f32⟩
  | .hbm, ⟨5, _⟩ => ⟨S16x128x128, .bf16⟩
  | .hbm, ⟨6, _⟩ => ⟨S2048x2048, .f32⟩
  | .hbm, ⟨7, _⟩ => ⟨S2048x2048, .bf16⟩
  | .hbm, ⟨8, _⟩ => ⟨S8x128x32768, .f32⟩
  | .hbm, ⟨9, _⟩ => ⟨S8x128x32768, .f32⟩
  | .hbm, ⟨10, _⟩ => ⟨S8x128x32768, .f32⟩
  | .hbm, ⟨11, _⟩ => ⟨S8x128x32768, .f32⟩
  | .hbm, ⟨12, _⟩ => ⟨S8x32768, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S16x128x128, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x256, .f32⟩
  | .local _ .vmem, ⟨13, _⟩ => ⟨S8x256, .f32⟩
  | .local _ .vmem, ⟨14, _⟩ => ⟨S16x128x256, .f32⟩
  | .local _ .vmem, ⟨15, _⟩ => ⟨S56x256, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v121 : BitVec 32 := Scalar.addi c0_i32 c8_i32
  let c1_i32 : BitVec 32 := 1#32
  ⟨c0_i32, v121, c1_i32⟩
def k0_off1 (k0_t1 : Fin k0_t1_loop.trips) : Fin 3 → Nat :=
  let c2_i32 : BitVec 32 := 2#32
  let c0_i32 : BitVec 32 := 0#32
  let c1_i32 : BitVec 32 := 1#32
  let arg11 : BitVec 32 := Scf.iv c0_i32 c1_i32 k0_t1
  let v122 : BitVec 32 := Scalar.muli c2_i32 arg11
  let v123 : Index := Scalar.indexCast v122
  let c0_104 : Index := 0#32
  let c0_105 : Index := 0#32
  ![v123.toNat, 0, 0]
def k0_off2 (k0_t1 : Fin k0_t1_loop.trips) : Fin 3 → Nat :=
  let c2_i32_106 : BitVec 32 := 2#32
  let c0_i32 : BitVec 32 := 0#32
  let c1_i32 : BitVec 32 := 1#32
  let arg11 : BitVec 32 := Scf.iv c0_i32 c1_i32 k0_t1
  let v126 : BitVec 32 := Scalar.muli c2_i32_106 arg11
  let c1_i32_107 : BitVec 32 := 1#32
  let v127 : BitVec 32 := Scalar.addi v126 c1_i32_107
  let v128 : Index := Scalar.indexCast v127
  let c0_108 : Index := 0#32
  let c0_109 : Index := 0#32
  ![v128.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v618 : Index := Scalar.indexCast arg11
  let c0_273 : Index := 0#32
  let c0_274 : Index := 0#32
  ![v618.toNat, 0, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let v642 : Index := Scalar.indexCast arg11
  let c0_281 : Index := 0#32
  ![v642.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouteRefIdeal.lean ====
abbrev S32768x2048 : Shape := ⟨2, ![32768, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S32768x8x2x128 : Shape := ⟨4, ![32768, 8, 2, 128]⟩
abbrev S8x2x128x128 : Shape := ⟨4, ![8, 2, 128, 128]⟩
abbrev S8x2x128x32768 : Shape := ⟨4, ![8, 2, 128, 32768]⟩
abbrev S32768x8x1x128 : Shape := ⟨4, ![32768, 8, 1, 128]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S8x128x32768 : Shape := ⟨3, ![8, 128, 32768]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S1x8x2x128x128, .f32⟩
  | .hbm, ⟨3, _⟩ => ⟨S32768x2048, .f32⟩
  | .hbm, ⟨4, _⟩ => ⟨S2048x2048, .f32⟩
  | .hbm, ⟨5, _⟩ => ⟨S32768x2048, .f32⟩
  | .hbm, ⟨6, _⟩ => ⟨S32768x8x2x128, .f32⟩
  | .hbm, ⟨7, _⟩ => ⟨S8x2x128x128, .f32⟩
  | .hbm, ⟨8, _⟩ => ⟨S8x2x128x32768, .f32⟩
  | .hbm, ⟨9, _⟩ => ⟨S32768x8x2x128, .f32⟩
  | .hbm, ⟨10, _⟩ => ⟨S32768x8x1x128, .f32⟩
  | .hbm, ⟨11, _⟩ => ⟨S32768x8x128, .f32⟩
  | .hbm, ⟨12, _⟩ => ⟨S32768x8x1x128, .f32⟩
  | .hbm, ⟨13, _⟩ => ⟨S32768x8x128, .f32⟩
  | .hbm, ⟨14, _⟩ => ⟨S_, .f32⟩
  | .hbm, ⟨15, _⟩ => ⟨S32768x8, .f32⟩
  | .hbm, ⟨16, _⟩ => ⟨S32768x8x1, .f32⟩
  | .hbm, ⟨17, _⟩ => ⟨S32768x8x128, .f32⟩
  | .hbm, ⟨18, _⟩ => ⟨S32768x8x128, .f32⟩
  | .hbm, ⟨19, _⟩ => ⟨S32768x8x128, .f32⟩
  | .hbm, ⟨20, _⟩ => ⟨S8x128x32768, .f32⟩
  | .hbm, ⟨21, _⟩ => ⟨S8x128x32768, .f32⟩
  | .hbm, ⟨22, _⟩ => ⟨S8x128x32768, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Proof.Consts.lean ====
module

public import proofs.«01_k».proof.Proof.Gen.KernelIdeal.Skeleton
public import Idealize.ShloMosaic.Lib.Pointwise

@[expose] public section

noncomputable section

namespace Cert.KernelIdeal.Attn

open Idealize.ShloMosaic

theorem bits_ninf : Ideal.ofBits .f32 0xFF800000#32 = ⊥ := by simp [Ideal.ofBits, Ideal.ieee]
theorem bits_inf : Ideal.ofBits .f32 0x7F800000#32 = ⊤ := by simp [Ideal.ofBits, Ideal.ieee]
theorem bits_zero : Ideal.ofBits .f32 0x00000000#32 = 0 := by simp [Ideal.ofBits, Ideal.ieee]
theorem bits_one : Ideal.ofBits .f32 0x3F800000#32 = ((1 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_eighth_bf16 : Ideal.ofBits .bf16 0x3E00#16 = ((1 / 8 : ℝ) : EReal) := by
  simp [Ideal.ofBits, Ideal.ieee, -EReal.coe_mul]; norm_num
theorem bits_fifth : ∃ r : ℝ, Ideal.ofBits .f32 0x3E4CCCCD#32 = (r : EReal) := by
  simp only [Ideal.ofBits, Ideal.ieee]
  exact ⟨_, by simp [-EReal.coe_mul]; rfl⟩
theorem mask_bot : (Named.named (F := Ideal) κ "mask" (φ := .f32) 0xF149F2CA#32) = ⊥ :=
  IdealRules.named_const.ideal_named_scalar _ _ _ _ rfl

end Cert.KernelIdeal.Attn

end
-- ==== Proof.Step.lean ====
module

public import proofs.«01_k».proof.Proof.Gen.KernelIdeal.Frame
public import proofs.«01_k».proof.Proof.Consts
public import Idealize.ShloMosaic.Lib.Pointwise

@[expose] public section

set_option maxRecDepth 16384

noncomputable section

namespace Cert.KernelIdeal.Attn

open Idealize.ShloMosaic Idealize.ShloMosaic.TcCoe
open Cert.KernelIdeal Cert.KernelIdeal.Gen

/-- What the loop over the key blocks carries: per softmax the running maximum, the running sum and the running output. -/
abbrev Car := FVec Ideal S512x1 .f32 × FVec Ideal S512x1 .f32 × FVec Ideal S512x128 .f32 × FVec Ideal S512x1 .f32 × FVec Ideal S512x1 .f32 × FVec Ideal S512x128 .f32

/-- The new running maximum. -/
def stepM (m : FVec Ideal S512x1 .f32) (s : FVec Ideal S512x512 .f32) : FVec Ideal S512x1 .f32 :=
  maximumf m (shapeCast S512x1 (multiReduction .maximumf [1] S512 s 0xFF800000#32 reduces_S512x512_S512 (.inl rfl) rfl) shapeCasts_S512_S512x1)

/-- The block's weights against the new maximum. -/
def stepP (m : FVec Ideal S512x1 .f32) (s : FVec Ideal S512x512 .f32) : FVec Ideal S512x512 .f32 :=
  exp (subf s (broadcastTo S512x512 (stepM m s) broadcasts_S512x1_S512x512))

/-- The factor by which the old sums shrink. -/
def stepC (m : FVec Ideal S512x1 .f32) (s : FVec Ideal S512x512 .f32) : FVec Ideal S512x1 .f32 :=
  exp (subf m (stepM m s))

/-- The new running sum. -/
def stepL (m l : FVec Ideal S512x1 .f32) (s : FVec Ideal S512x512 .f32) : FVec Ideal S512x1 .f32 :=
  addf (mulf (stepC m s) l) (shapeCast S512x1 (multiReduction .add [1] S512 (stepP m s) 0x00000000#32 reduces_S512x512_S512 (.inl rfl) rfl) shapeCasts_S512_S512x1)

/-- The new running output. -/
def stepA (m : FVec Ideal S512x1 .f32) (a : FVec Ideal S512x128 .f32) (s : FVec Ideal S512x512 .f32) (v : FVec Ideal S512x128 .bf16) : FVec Ideal S512x128 .f32 :=
  addf (mulf (broadcastTo S512x128 (stepC m s) broadcasts_S512x1_S512x128) a)
    (matmul dot_S512x512_S512x128_S512x128_1_0_0_1_n_n none (truncf .bf16 (stepP m s) bitsLt_bf16_f32) v (constant S512x128 .f32 0x00000000#32))

/-- One block's step on both softmaxes. -/
def step (s1 s2 : FVec Ideal S512x512 .f32) (v : FVec Ideal S512x128 .bf16) (a : Car) : Car :=
  (stepM a.1 s1, stepL a.1 a.2.1 s1, stepA a.1 a.2.2.1 s1 v,
   stepM a.2.2.2.1 s2, stepL a.2.2.2.1 a.2.2.2.2.1 s2, stepA a.2.2.2.1 a.2.2.2.2.2 s2 v)

/-- The rows of a batch's keys or values that one block holds. -/
def blkAt (X : FVec Ideal S8192x128 .bf16) (off : Fin 2 → ℕ) (inb : ∀ a, off a + S512x128.size a ≤ S8192x128.size a) : FVec Ideal S512x128 .bf16 :=
  View.ld (Val := Elt Ideal) (S := S8192x128) (e' := .bf16) X (Rect.unit off S512x128.size inb)

/-- One trip of the loop is one step on the trip's key and value blocks. -/
theorem trip1_eq (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (arg2 : BitVec 32) (v1 : Vec Ideal S512x128 .bf16) (v21 : IVec S1x512 32) (K V : FVec Ideal S8192x128 .bf16) (k : Fin (k0_t1_loop i).trips) (acc : Car) :
    tripR_k0_t1 (F := Ideal) 𝒱 c bd i arg3 harg3 arg4 harg4 arg5 harg5 arg6 harg6 arg7 harg7 arg8 harg8 arg9 harg9 arg10 harg10 arg11 harg11 arg2 v1 v21 (harg4.unread K) (harg5.unread V) k acc
      = step
          (k0_pay3 (F := Ideal) i arg2 (k0_pay30 v1) (k0_pay32 i) v21 0#32 1#32 k (blkAt K (k0_off1 i k) (k0_off1_inb i k)))
          (k0_pay4 (F := Ideal) i arg2 (k0_pay31 v1) (k0_pay32 i) v21 0#32 1#32 k (blkAt K (k0_off1 i k) (k0_off1_inb i k)))
          (blkAt V (k0_off1 i k) (k0_off1_inb i k)) acc := by
  unfold tripR_k0_t1 trip_k0_t1
  dsimp only
  sl_unfold_words
  simp only [View.readAt_eq_ld, harg4.read_unread, harg5.read_unread]
  rfl

theorem stepM_apply (m : FVec Ideal S512x1 .f32) (s : FVec Ideal S512x512 .f32) (r : Fin 512) :
    stepM m s (ix2 r 0) = max (m (ix2 r 0)) (Finset.univ.fold max ⊥ fun c : Fin 512 => s (ix2 r c)) := by
  pointwise [stepM]
  rw [bits_ninf]

theorem stepL_apply (m l : FVec Ideal S512x1 .f32) (s : FVec Ideal S512x512 .f32) (r : Fin 512) :
    stepL m l s (ix2 r 0) = Ideal.exp (m (ix2 r 0) - stepM m s (ix2 r 0)) * l (ix2 r 0)
      + ∑ c : Fin 512, Ideal.exp (s (ix2 r c) - stepM m s (ix2 r 0)) := by
  pointwise [stepL, stepC, stepP]

theorem stepA_apply (m : FVec Ideal S512x1 .f32) (a : FVec Ideal S512x128 .f32) (s : FVec Ideal S512x512 .f32) (v : FVec Ideal S512x128 .bf16) (r : Fin 512) (d : Fin 128) :
    stepA m a s v (ix2 r d) = Ideal.exp (m (ix2 r 0) - stepM m s (ix2 r 0)) * a (ix2 r d)
      + ∑ c : Fin 512, Ideal.exp (s (ix2 r c) - stepM m s (ix2 r 0)) * v (ix2 c d) := by
  pointwise [stepA, stepC, stepP]

end Cert.KernelIdeal.Attn

end
-- ==== Proof.Score.lean ====
module

public import proofs.«01_k».proof.Proof.Step

@[expose] public section

set_option maxRecDepth 16384

noncomputable section

namespace Cert.KernelIdeal.Attn

open Idealize.ShloMosaic Idealize.ShloMosaic.TcCoe
open Cert.KernelIdeal Cert.KernelIdeal.Gen

/-- An integer word's value, from its affine form. -/
theorem toInt_of {x : BitVec 32} {e : ℤ} (h : Affine.IsInt x e) : x.toInt = e := by
  unfold Affine.IsInt at h; exact h

theorem select_sle (a b : BitVec 32) {x y : EReal} (m n : ℤ) (ha : Affine.IsInt a m) (hb : Affine.IsInt b n) :
    Scalar.select (IntOp.cmpi .sle a b) x y = if m ≤ n then x else y := by
  rw [← toInt_of ha, ← toInt_of hb]
  by_cases h : a.toInt ≤ b.toInt <;> simp [Scalar.select, IntOp.cmpi, BitVec.sle, h]

theorem select_slt (a b : BitVec 32) {x y : EReal} (m n : ℤ) (ha : Affine.IsInt a m) (hb : Affine.IsInt b n) :
    Scalar.select (IntOp.cmpi .slt a b) x y = if m < n then x else y := by
  rw [← toInt_of ha, ← toInt_of hb]
  by_cases h : a.toInt < b.toInt <;> simp [Scalar.select, IntOp.cmpi, BitVec.slt, h]

theorem select_sge (a b : BitVec 32) {x y : EReal} (m n : ℤ) (ha : Affine.IsInt a m) (hb : Affine.IsInt b n) :
    Scalar.select (IntOp.cmpi .sge a b) x y = if n ≤ m then x else y := by
  rw [← toInt_of ha, ← toInt_of hb]
  by_cases h : b.toInt ≤ a.toInt <;> simp [Scalar.select, IntOp.cmpi, BitVec.sle, h]

theorem sitofp_of {a : BitVec 32} {m : ℤ} (ha : Affine.IsInt a m) : (FloatOps.sitofp (F := Ideal) .f32 a : EReal) = ((m : ℝ) : EReal) := by
  rw [← toInt_of ha]; rfl

theorem trips1 (i : grid0.Coords) : (k0_t1_loop i).trips = (i 2).val :=
  (by decide +kernel : ∀ n : Fin 16, Scf.trips (0#32) (Scalar.addi (0#32) (Scalar.muli (Scalar.divsi (Scalar.subi (BitVec.ofNat 32 n.val) 0#32) 1#32) 1#32)) 1#32 = n.val) (i 2)

theorem trips2 (i : grid0.Coords) : (k0_t2_loop i).trips = 0 := Nat.le_zero.1 (k0_t2_abs i).2.1

/-- The key block of trip `k`, at an index. -/
theorem blkAt_apply (X : FVec Ideal S8192x128 .bf16) (n : ℕ) (off : Fin 2 → ℕ) (inb : ∀ a, off a + S512x128.size a ≤ S8192x128.size a) (hoff : off = ![512 * n, 0]) (c : Fin 512) (d : Fin 128) (h : 512 * n + c.val < 8192) :
    blkAt X off inb (ix2 c d) = X (ix2 ⟨512 * n + c.val, h⟩ d) := by
  subst hoff
  pointwise [blkAt]

theorem pay30_apply (Q : FVec Ideal S512x128 .bf16) (r : Fin 512) (l : Fin 128) :
    k0_pay30 Q (ix2 r l) = if l.val < 64 then Q (ix2 r l) * ((1 / 8 : ℝ) : EReal) else 0 := by
  pointwise [k0_pay30, k0_pay28, k0_pay29]
  rw [bits_eighth_bf16, select_slt _ _ l.val 64 (Affine.ofNat _ (by omega)) (Affine.ofNat _ (by omega))]
  norm_cast

theorem pay31_apply (Q : FVec Ideal S512x128 .bf16) (r : Fin 512) (l : Fin 128) :
    k0_pay31 Q (ix2 r l) = if l.val < 64 then 0 else Q (ix2 r l) * ((1 / 8 : ℝ) : EReal) := by
  pointwise [k0_pay31, k0_pay28, k0_pay29]
  rw [bits_eighth_bf16, select_sge _ _ l.val 64 (Affine.ofNat _ (by omega)) (Affine.ofNat _ (by omega))]
  by_cases h : l.val < 64
  · rw [if_neg (by omega), if_pos h]
  · rw [if_pos (by omega), if_neg h]

theorem pay32_apply (i : grid0.Coords) (c : Fin 512) :
    k0_pay32 (F := Ideal) i (ix2 0 c) = ((Real.rpow 2 (-((i 1).val + 1 : ℝ)) : ℝ) : EReal) := by
  have hi : (i 1).val < 8 := (i 1).isLt
  pointwise [k0_pay32]
  rw [sitofp_of (Affine.addi (Affine.ofNat _ ⟨rfl, by omega⟩) (Affine.ofNat (e := 1) 1 (by omega)) ⟨rfl, by omega, by omega⟩), bits_neg_one, ← EReal.coe_mul]
  show ((Real.rpow 2 _ : ℝ) : EReal) = _
  congr 2
  push_cast; ring

theorem pay3_apply (i : grid0.Coords) (k : Fin (k0_t1_loop i).trips) (q : FVec Ideal S512x128 .bf16) (v20 : FVec Ideal S1x512 .f32) (kb : FVec Ideal S512x128 .bf16) (r c : Fin 512) :
    k0_pay3 (F := Ideal) i (BitVec.ofNat 32 (i 2).val) q v20 (iota .tc S1x512 32 [1] iota_S1x512_d1_w32) 0#32 1#32 k kb (ix2 r c)
      = (∑ l : Fin 128, q (ix2 r l) * kb (ix2 c l))
        + v20 (ix2 0 c) * (((512 * k.val - 512 * (i 2).val + c.val : ℤ) : ℝ) : EReal) := by
  have hi : (i 2).val < 16 := (i 2).isLt
  have hk : k.val < 15 := Nat.lt_of_lt_of_le k.isLt (k0_t1_abs i).2.1
  pointwise [k0_pay3, k0_pay2]
  have h0 : Affine.IsInt 0#32 0 := Affine.ofNat _ (by omega)
  have h1 : Affine.IsInt 1#32 1 := Affine.ofNat _ (by omega)
  have h512 : Affine.IsInt 512#32 512 := Affine.ofNat _ (by omega)
  have hiv : Affine.IsInt _ (k.val : ℤ) := Affine.iv h0 h1 k.val (by omega)
  have hq : Affine.IsInt (BitVec.ofNat 32 (i 2).val) ((i 2).val : ℤ) := Affine.ofNat _ (by omega)
  have hc : Affine.IsInt (BitVec.ofNat 32 c.val) (c.val : ℤ) := Affine.ofNat _ (by omega)
  have e1 : Affine.IsInt _ (512 * (k.val : ℤ)) := Affine.muli hiv h512 (by omega)
  have e2 : Affine.IsInt _ (512 * ((i 2).val : ℤ)) := Affine.muli hq h512 (by omega)
  have e3 : Affine.IsInt _ (512 * (k.val : ℤ) - 512 * ((i 2).val : ℤ)) := Affine.subi e1 e2 (by omega)
  have e4 : Affine.IsInt _ (512 * (k.val : ℤ) - 512 * ((i 2).val : ℤ) + c.val) := Affine.addi e3 hc (by omega)
  exact congrArg (fun z : EReal => (∑ l : Fin 128, q (ix2 r l) * kb (ix2 c l)) + v20 (ix2 0 c) * z) (sitofp_of e4)

theorem pay40_apply (i : grid0.Coords)  (q : FVec Ideal S512x128 .bf16) (v20 : FVec Ideal S1x512 .f32) (kb : FVec Ideal S512x128 .bf16) (r c : Fin 512) :
    k0_pay40 (F := Ideal) (BitVec.ofNat 32 (i 2).val) q v20 (iota .tc S1x512 32 [1] iota_S1x512_d1_w32) (iota .tc S512x1 32 [0] iota_S512x1_d0_w32) (Scalar.muli (BitVec.ofNat 32 (i 2).val) 512#32) kb (ix2 r c)
      = if c.val ≤ r.val then (∑ l : Fin 128, q (ix2 r l) * kb (ix2 c l))
        + v20 (ix2 0 c) * (((c.val : ℤ) : ℝ) : EReal) else ⊥ := by
  have hi : (i 2).val < 16 := (i 2).isLt
  pointwise [k0_pay40, k0_pay38, k0_pay39]
  rw [mask_bot]
  have h512 : Affine.IsInt 512#32 512 := Affine.ofNat _ (by omega)
  have hq : Affine.IsInt (BitVec.ofNat 32 (i 2).val) ((i 2).val : ℤ) := Affine.ofNat _ (by omega)
  have hc : Affine.IsInt (BitVec.ofNat 32 c.val) (c.val : ℤ) := Affine.ofNat _ (by omega)
  have hr : Affine.IsInt (BitVec.ofNat 32 r.val) (r.val : ℤ) := Affine.ofNat _ (by omega)
  have e2 : Affine.IsInt _ (512 * ((i 2).val : ℤ)) := Affine.muli hq h512 (by omega)
  have e3 : Affine.IsInt _ (0 : ℤ) := Affine.subi e2 e2 (by omega)
  have e4 : Affine.IsInt _ (c.val : ℤ) := Affine.addi e3 hc (by omega)
  refine (select_sle _ _ _ _ e4 hr).trans ?_
  simp only [Nat.cast_le]
  refine if_congr Iff.rfl ?_ rfl
  exact congrArg (fun z : EReal => (∑ l : Fin 128, q (ix2 r l) * kb (ix2 c l)) + v20 (ix2 0 c) * z) (sitofp_of e4)

theorem pay4_eq (i : grid0.Coords) (a : BitVec 32) (q : FVec Ideal S512x128 .bf16) (v20 : FVec Ideal S1x512 .f32) (v21) (c0 c1) (k : Fin (k0_t1_loop i).trips) (kb : FVec Ideal S512x128 .bf16) :
    k0_pay4 (F := Ideal) i a q v20 v21 c0 c1 k kb = k0_pay3 i a q v20 v21 c0 c1 k kb := rfl

theorem pay46_eq (a : BitVec 32) (q : FVec Ideal S512x128 .bf16) (v20 : FVec Ideal S1x512 .f32) (v21 v22) (v34 : BitVec 32) (kb : FVec Ideal S512x128 .bf16) :
    k0_pay46 (F := Ideal) a q v20 v21 v22 v34 kb = k0_pay40 a q v20 v21 v22 v34 kb := rfl

end Cert.KernelIdeal.Attn

end
-- ==== Proof.Out.lean ====
module

public import proofs.«01_k».proof.Proof.Gen.KernelIdeal.Value
public import Idealize.ShloMosaic.Lib.Pipeline.ValueKit
public import proofs.«01_k».proof.Proof.Score

@[expose] public section

set_option maxRecDepth 16384

noncomputable section

namespace Cert.KernelIdeal.Attn

open Idealize.ShloMosaic Idealize.ShloMosaic.TcCoe Idealize.SL.Sem
open Cert.KernelIdeal Cert.KernelIdeal.Gen

/-- The column numbers of a block. -/
abbrev colI : IVec S1x512 32 := iota .tc S1x512 32 [1] iota_S1x512_d1_w32
/-- The row numbers of a block. -/
abbrev rowI : IVec S512x1 32 := iota .tc S512x1 32 [0] iota_S512x1_d0_w32

/-- What the loop carries before its first trip. -/
def car0 : Car := (k0_pay33, k0_pay34, k0_pay35, k0_pay33, k0_pay34, k0_pay35)

/-- One trip's step. -/
def carStep (i : grid0.Coords) (Q : FVec Ideal S512x128 .bf16) (K V : FVec Ideal S8192x128 .bf16) (k : Fin (k0_t1_loop i).trips) (C : Car) : Car :=
  step (k0_pay3 (F := Ideal) i (BitVec.ofNat 32 (i 2).val) (k0_pay30 Q) (k0_pay32 i) colI 0#32 1#32 k (blkAt K (k0_off1 i k) (k0_off1_inb i k)))
    (k0_pay4 (F := Ideal) i (BitVec.ofNat 32 (i 2).val) (k0_pay31 Q) (k0_pay32 i) colI 0#32 1#32 k (blkAt K (k0_off1 i k) (k0_off1_inb i k)))
    (blkAt V (k0_off1 i k) (k0_off1_inb i k)) C

/-- What the loop carries before trip `n`. -/
def carAt (i : grid0.Coords) (Q : FVec Ideal S512x128 .bf16) (K V : FVec Ideal S8192x128 .bf16) : ℕ → Car
  | 0 => car0
  | n + 1 => if h : n < (k0_t1_loop i).trips then carStep i Q K V ⟨n, h⟩ (carAt i Q K V n) else carAt i Q K V n

/-- After the last block, the masked one on the diagonal. -/
def carEnd (i : grid0.Coords) (Q : FVec Ideal S512x128 .bf16) (K V : FVec Ideal S8192x128 .bf16) : Car :=
  step (k0_pay40 (F := Ideal) (BitVec.ofNat 32 (i 2).val) (k0_pay30 Q) (k0_pay32 i) colI rowI (Scalar.muli (BitVec.ofNat 32 (i 2).val) 512#32) (blkAt K (k0_off3 i) (k0_off3_inb i)))
    (k0_pay46 (F := Ideal) (BitVec.ofNat 32 (i 2).val) (k0_pay31 Q) (k0_pay32 i) colI rowI (Scalar.muli (BitVec.ofNat 32 (i 2).val) 512#32) (blkAt K (k0_off3 i) (k0_off3_inb i)))
    (blkAt V (k0_off3 i) (k0_off3_inb i)) (carAt i Q K V (k0_t1_loop i).trips)

/-- The two lambda terms and their offset. -/
def lamK (x3 x4 x5 x6 : FVec Ideal S1x64 .f32) : FVec Ideal S1x1 .f32 :=
  addf (subf (exp (shapeCast S1x1 (multiReduction .add [1] S1 (mulf x3 x4) 0x00000000#32 reduces_S1x64_S1 (.inl rfl) rfl) shapeCasts_S1_S1x1))
    (exp (shapeCast S1x1 (multiReduction .add [1] S1 (mulf x5 x6) 0x00000000#32 reduces_S1x64_S1 (.inl rfl) rfl) shapeCasts_S1_S1x1)))
    (broadcast S1x1 (Scalar.ofBits .f32 0x3E4CCCCD#32))

/-- The difference of the two softmaxes' outputs. -/
def diffK (C : Car) (lam : FVec Ideal S1x1 .f32) : FVec Ideal S512x128 .f32 :=
  subf (divf C.2.2.1 (broadcastTo S512x128 C.2.1 broadcasts_S512x1_S512x128))
    (mulf (broadcastTo S512x128 lam broadcasts_S1x1_S512x128) (divf C.2.2.2.2.2 (broadcastTo S512x128 C.2.2.2.2.1 broadcasts_S512x1_S512x128)))

/-- The norm over a head's lanes. -/
def normK (o : FVec Ideal S512x128 .f32) (w : FVec Ideal S1x128 .f32) : FVec Ideal S512x128 .bf16 :=
  truncf .bf16 (mulf (mulf (mulf o (broadcastTo S512x128 (rsqrt (addf (divf
      (shapeCast S512x1 (multiReduction .add [1] S512 (mulf o o) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 w broadcasts_S1x128_S512x128)) (broadcast S512x128 (Scalar.ofBits .f32 0x3F4CCCCD#32))) bitsLt_bf16_f32

/-- One grid point's output block from its input blocks. -/
def outBlk (i : grid0.Coords) (Q : FVec Ideal S512x128 .bf16) (K V : FVec Ideal S8192x128 .bf16) (x3 x4 x5 x6 : FVec Ideal S1x64 .f32) (x7 : FVec Ideal S1x128 .f32) : FVec Ideal S512x128 .bf16 :=
  normK (diffK (carEnd i Q K V) (lamK x3 x4 x5 x6)) x7

/-- The loop's carried value is the iterated step. -/
theorem st1_eq (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S512x128 .bf16) (harg11 : arg11.IsWhole) (Q : Vec Ideal S512x128 .bf16) (K V : FVec Ideal S8192x128 .bf16) (n : ℕ) (hn : n ≤ (k0_t1_loop i).trips) :
    st_k0_t1 (F := Ideal) 𝒱 c bd i arg3 harg3 arg4 harg4 arg5 harg5 arg6 harg6 arg7 harg7 arg8 harg8 arg9 harg9 arg10 harg10 arg11 harg11 (BitVec.ofNat 32 (i 2).val) Q colI (harg4.unread K) (harg5.unread V) car0 n
      = carAt i Q K V n := by
  induction n with
  | zero => rw [st_k0_t1_zero]; rfl
  | succ n ih =>
    have h : n < (k0_t1_loop i).trips := by omega
    have := st_k0_t1_succ (F := Ideal) 𝒱 c bd i arg3 harg3 arg4 harg4 arg5 harg5 arg6 harg6 arg7 harg7 arg8 harg8 arg9 harg9 arg10 harg10 arg11 harg11 (BitVec.ofNat 32 (i 2).val) Q colI (harg4.unread K) (harg5.unread V) car0 ⟨n, h⟩
    rw [this, trip1_eq, ih (by omega)]
    simp only [carAt, dif_pos h, carStep]

theorem outs_eq (m : (ℓ : Loc nD τ sig) → Buf (Elt Ideal) ℓ) (c : Dev nD) (t : Fin cfg0.N) :
    outsAt0 (F := Ideal) m c t = outBlk (grid0.coords t) (iblk m c 0 t) (iblk m c 1 t) (iblk m c 2 t) (iblk m c 3 t) (iblk m c 4 t) (iblk m c 5 t) (iblk m c 6 t) (iblk m c 7 t) := by
  have e1 : st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (BitVec.ofNat 32 (grid0.coords t 2).val) (iblk m c 0 t) (iota .tc S1x512 32 [1] iota_S1x512_d1_w32) ((hs0_1 t).unread (iblk m c 1 t)) ((hs0_2 t).unread (iblk m c 2 t)) (k0_pay33, k0_pay34, k0_pay35, k0_pay33, k0_pay34, k0_pay35)
      (Scf.trips 0#32 (Scalar.addi 0#32 (Scalar.muli (Scalar.divsi (Scalar.subi (BitVec.ofNat 32 (grid0.coords t 2).val) 0#32) 1#32) 1#32)) 1#32)
      = carAt (grid0.coords t) (iblk m c 0 t) (iblk m c 1 t) (iblk m c 2 t) (k0_t1_loop (grid0.coords t)).trips :=
    st1_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) _ le_rfl
  have hz : ∀ x, st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (BitVec.ofNat 32 (grid0.coords t 2).val) (iblk m c 0 t) (iota .tc S1x512 32 [1] iota_S1x512_d1_w32)
      (Scalar.addi 0#32 (Scalar.muli (Scalar.divsi (Scalar.subi (BitVec.ofNat 32 (grid0.coords t 2).val) 0#32) 1#32) 1#32)) ((hs0_1 t).unread (iblk m c 1 t)) ((hs0_2 t).unread (iblk m c 2 t)) x (Scf.trips (Scalar.addi 0#32 (Scalar.muli (Scalar.divsi (Scalar.subi (BitVec.ofNat 32 (grid0.coords t 2).val) 0#32) 1#32) 1#32)) (Scalar.addi 0#32 (Scalar.subi (BitVec.ofNat 32 (grid0.coords t 2).val) 0#32)) 1#32) = x := fun x => by
    rw [show (Scf.trips (Scalar.addi 0#32 (Scalar.muli (Scalar.divsi (Scalar.subi (BitVec.ofNat 32 (grid0.coords t 2).val) 0#32) 1#32) 1#32)) (Scalar.addi 0#32 (Scalar.subi (BitVec.ofNat 32 (grid0.coords t 2).val) 0#32)) 1#32) = 0 from trips2 (grid0.coords t)]
    exact st_k0_t2_zero (F := Ideal) ..
  simp only [outsAt0]
  unfold out0_A_8
  rw [View.read_writes_eq_canon _ _ _ (cover0_A_8 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide)]
  simp only [View.ld_unit_zero (S := S512x128) (off := ![0, 0]) (by decide), View.ld_unit_zero (S := S1x64) (off := ![0, 0]) (by decide), View.ld_unit_zero (S := S1x128) (off := ![0, 0]) (by decide)]
  simp only [Prod.mk.eta, e1, hz]
  unfold outBlk carEnd
  generalize carAt _ _ _ _ _ = S1
  rfl

end Cert.KernelIdeal.Attn

end
-- ==== Proof.Online.lean ====
module

public import Idealize.ShloMosaic.Lib.Pointwise

@[expose] public section

noncomputable section

namespace Online

open Idealize.ShloMosaic

/-- The exponential as a real: zero at minus infinity. -/
def ex (x : EReal) : ℝ := (Ideal.exp x).toReal

theorem ex_bot : ex ⊥ = 0 := by simp [ex]
theorem ex_coe (r : ℝ) : ex (r : EReal) = Real.exp r := by simp [ex]

/-- A score: a real, or masked out. -/
def Score (x : EReal) : Prop := x = ⊥ ∨ ∃ r : ℝ, x = (r : EReal)

theorem ex_nonneg (x : EReal) (h : Score x) : 0 ≤ ex x := by
  rcases h with rfl | ⟨r, rfl⟩
  · rw [ex_bot]
  · rw [ex_coe]; exact (Real.exp_pos r).le

/-- A score's weight against a real maximum. -/
theorem exp_sub (x : EReal) (h : Score x) (M : ℝ) : Ideal.exp (x - (M : EReal)) = ((ex x * Real.exp (-M) : ℝ) : EReal) := by
  rcases h with rfl | ⟨r, rfl⟩
  · rw [ex_bot, zero_mul, EReal.bot_sub, Ideal.exp_bot]; rfl
  · rw [ex_coe, ← EReal.coe_sub, Ideal.exp_coe, ← Real.exp_add, sub_eq_add_neg]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of scores that aren't all masked is a real. -/
theorem max_real {n : ℕ} (s : Fin n → EReal) (hs : ∀ c, Score (s c)) (hex : ∃ c, ∃ r : ℝ, s c = (r : EReal)) (m : EReal) (hm : m ≠ ⊤) :
    ∃ M : ℝ, max m (Finset.univ.fold max ⊥ s) = (M : EReal) := by
  obtain ⟨c, r, hc⟩ := hex
  have h1 : max m (Finset.univ.fold max ⊥ s) ≠ ⊤ := by
    refine ne_of_lt (max_lt (lt_top_iff_ne_top.2 hm) ?_)
    rw [Finset.fold_max_lt]
    refine ⟨bot_lt_top, fun x _ => ?_⟩
    rcases hs x with h | ⟨y, h⟩
    · rw [h]; exact bot_lt_top
    · rw [h]; exact EReal.coe_lt_top y
  have h2 : max m (Finset.univ.fold max ⊥ s) ≠ ⊥ := by
    refine ne_of_gt (lt_of_lt_of_le (EReal.bot_lt_coe r) (le_max_of_le_right ?_))
    rw [Finset.le_fold_max]
    exact Or.inr ⟨c, Finset.mem_univ _, hc.ge⟩
  exact ⟨_, (EReal.coe_toReal h1 h2).symm⟩

/-- The running maximum, sum and output stand for the sum `L` of the weights and the weighted sum `A` so far. -/
def Inv (m l a : EReal) (L A : ℝ) : Prop :=
  (m = ⊥ ∧ l = 0 ∧ a = 0 ∧ L = 0 ∧ A = 0) ∨
    ∃ M : ℝ, m = (M : EReal) ∧ l = ((Real.exp (-M) * L : ℝ) : EReal) ∧ a = ((Real.exp (-M) * A : ℝ) : EReal)

theorem Inv.init : Inv ⊥ 0 0 0 0 := Or.inl ⟨rfl, rfl, rfl, rfl, rfl⟩

/-- A block's step adds the block's weights to both sums. -/
theorem Inv.step {n : ℕ} {m l a : EReal} {L A : ℝ} (h : Inv m l a L A) (s : Fin n → EReal) (v : Fin n → ℝ)
    (hs : ∀ c, Score (s c)) (hex : ∃ c, ∃ r : ℝ, s c = (r : EReal)) {m' : EReal} (hm' : m' = max m (Finset.univ.fold max ⊥ s)) :
    Inv m' (Ideal.exp (m - m') * l + ∑ c, Ideal.exp (s c - m')) (Ideal.exp (m - m') * a + ∑ c, Ideal.exp (s c - m') * (v c : EReal))
      (L + ∑ c, ex (s c)) (A + ∑ c, ex (s c) * v c) := by
  have hm : m ≠ ⊤ := by
    rcases h with ⟨h, -⟩ | ⟨M, h, -⟩ <;> rw [h]
    · exact bot_ne_top
    · exact EReal.coe_ne_top M
  obtain ⟨M', hM'⟩ := max_real s hs hex m hm
  rw [← hm'] at hM'
  subst hM'
  refine Or.inr ⟨M', rfl, ?_, ?_⟩
  · have e : ∀ c, Ideal.exp (s c - (M' : EReal)) = ((ex (s c) * Real.exp (-M') : ℝ) : EReal) := fun c => exp_sub _ (hs c) _
    simp only [e, coe_sum]
    rcases h with ⟨rfl, rfl, -, rfl, -⟩ | ⟨M, rfl, rfl, -⟩
    · rw [mul_zero, zero_add, zero_add, ← Finset.sum_mul, mul_comm]
    · rw [exp_sub _ (Or.inr ⟨M, rfl⟩), ex_coe, ← EReal.coe_mul, ← EReal.coe_add, ← Finset.sum_mul]
      congr 1
      have : Real.exp M * Real.exp (-M) = 1 := by rw [← Real.exp_add]; simp
      linear_combination (Real.exp (-M') * L) * this
  · have e : ∀ c, Ideal.exp (s c - (M' : EReal)) * (v c : EReal) = ((ex (s c) * v c * Real.exp (-M') : ℝ) : EReal) := fun c => by
      rw [exp_sub _ (hs c), ← EReal.coe_mul]; congr 1; ring
    simp only [e, coe_sum]
    rcases h with ⟨rfl, -, rfl, -, rfl⟩ | ⟨M, rfl, -, rfl⟩
    · rw [mul_zero, zero_add, zero_add, ← Finset.sum_mul, mul_comm]
    · rw [exp_sub _ (Or.inr ⟨M, rfl⟩), ex_coe, ← EReal.coe_mul, ← EReal.coe_add, ← Finset.sum_mul]
      congr 1
      have : Real.exp M * Real.exp (-M) = 1 := by rw [← Real.exp_add]; simp
      linear_combination (Real.exp (-M') * A) * this

/-- The quotient at the end. -/
theorem Inv.div {m l a : EReal} {L A : ℝ} (h : Inv m l a L A) (hL : L ≠ 0) : Ideal.div a l = ((A / L : ℝ) : EReal) := by
  rcases h with ⟨-, -, -, h, -⟩ | ⟨M, -, rfl, rfl⟩
  · exact absurd h hL
  · have hM : Real.exp (-M) ≠ 0 := (Real.exp_pos _).ne'
    rw [Ideal.div_coe (mul_ne_zero hM hL), ← EReal.coe_mul]
    congr 1
    field_simp

/-- The plain softmax of one row. -/
theorem softmax {n : ℕ} (s : Fin n → EReal) (hs : ∀ c, Score (s c)) (hex : ∃ c, ∃ r : ℝ, s c = (r : EReal)) {m : EReal}
    (hm : m = max ⊥ (Finset.univ.fold max ⊥ s)) (c : Fin n) :
    Ideal.div (Ideal.exp (s c - m)) (∑ c, Ideal.exp (s c - m)) = ((ex (s c) / ∑ c, ex (s c) : ℝ) : EReal) := by
  obtain ⟨M, hM⟩ := max_real s hs hex ⊥ bot_ne_top
  rw [← hm] at hM
  subst hM
  have e : ∀ c, Ideal.exp (s c - (M : EReal)) = ((ex (s c) * Real.exp (-M) : ℝ) : EReal) := fun c => exp_sub _ (hs c) _
  have hp : 0 < ∑ c, ex (s c) := by
    obtain ⟨c, r, hc⟩ := hex
    refine Finset.sum_pos' (fun c _ => ex_nonneg _ (hs c)) ⟨c, Finset.mem_univ _, ?_⟩
    rw [hc, ex_coe]; exact Real.exp_pos r
  simp only [e, coe_sum]
  have hM : Real.exp (-M) ≠ 0 := (Real.exp_pos _).ne'
  rw [← Finset.sum_mul, Ideal.div_coe (mul_ne_zero hp.ne' hM), ← EReal.coe_mul]
  congr 1
  field_simp

end Online

end
-- ==== Proof.Spec.lean ====
module

public import proofs.«01_k».proof.Proof.Online

@[expose] public section

noncomputable section

namespace Spec

open Idealize.ShloMosaic

/-- The scaled dot product of query `t` and key `j` in batch `b`, head `h`, half `f`. -/
def dot (x : ℕ → ℕ → ℝ) (b h f t j : ℕ) : ℝ :=
  ∑ d : Fin 64, (x (8192 * b + t) (128 * h + (64 * f + d.val)) * (1 / 8)) * x (8192 * b + j) (1024 + (128 * h + (64 * f + d.val)))

/-- A head's slope. -/
def slope (h : ℕ) : ℝ := Real.rpow 2 (-((h : ℝ) + 1))

/-- The score with its distance bias. -/
def sc (x : ℕ → ℕ → ℝ) (b h f t j : ℕ) : ℝ := dot x b h f t j - slope h * ((t : ℝ) - (j : ℝ))

/-- The weight of key `j`, none after the query. -/
def wt (x : ℕ → ℕ → ℝ) (b h f t j : ℕ) : ℝ := if j ≤ t then Real.exp (sc x b h f t j) else 0

/-- The sum of the weights. -/
def L (x : ℕ → ℕ → ℝ) (b h f t : ℕ) : ℝ := ∑ j ∈ Finset.range 8192, wt x b h f t j

/-- The weighted sum of the values on lane `d`. -/
def A (x : ℕ → ℕ → ℝ) (b h f t d : ℕ) : ℝ := ∑ j ∈ Finset.range 8192, wt x b h f t j * x (8192 * b + j) (2048 + (128 * h + d))

/-- The difference of the two attentions. -/
def O (x : ℕ → ℕ → ℝ) (lam : ℝ) (b h t d : ℕ) : ℝ := A x b h 0 t d / L x b h 0 t - lam * (A x b h 1 t d / L x b h 1 t)

/-- The norm of a row and the closing factor. -/
def tail (o w : Fin 128 → EReal) (d : Fin 128) : EReal :=
  o d * Ideal.rsqrt (Ideal.div (∑ l, o l * o l) (Ideal.ofBits .f32 0x43000000#32) + Ideal.ofBits .f32 0x358637BD#32) * w d * Ideal.ofBits .f32 0x3F4CCCCD#32

theorem L_pos (x : ℕ → ℕ → ℝ) (b h f t : ℕ) (ht : t < 8192) : 0 < L x b h f t := by
  unfold L
  refine Finset.sum_pos' (fun j _ => ?_) ⟨t, Finset.mem_range.2 ht, ?_⟩
  · unfold wt; split
    · exact (Real.exp_pos _).le
    · exact le_rfl
  · unfold wt; rw [if_pos le_rfl]; exact Real.exp_pos _

/-- The weight with its bias measured from the block's first query instead of from the query. -/
def kw (x : ℕ → ℕ → ℝ) (b h f q t j : ℕ) : ℝ := if j ≤ t then Real.exp (dot x b h f t j + slope h * ((j : ℝ) - (q : ℝ))) else 0

theorem kw_eq (x : ℕ → ℕ → ℝ) (b h f q t j : ℕ) : kw x b h f q t j = wt x b h f t j * Real.exp (slope h * ((t : ℝ) - (q : ℝ))) := by
  unfold kw wt
  split
  · rw [← Real.exp_add]; congr 1; unfold sc; ring
  · rw [zero_mul]

/-- The sums over the keys up to a bound past the query. -/
theorem sum_kw (x : ℕ → ℕ → ℝ) (b h f q t n : ℕ) (g : ℕ → ℝ) (hn : t < n) (hn' : n ≤ 8192) :
    ∑ j ∈ Finset.range n, kw x b h f q t j * g j = (∑ j ∈ Finset.range 8192, wt x b h f t j * g j) * Real.exp (slope h * ((t : ℝ) - (q : ℝ))) := by
  rw [Finset.sum_mul]
  have e : ∑ j ∈ Finset.range n, kw x b h f q t j * g j = ∑ j ∈ Finset.range 8192, kw x b h f q t j * g j := by
    refine Finset.sum_subset (Finset.range_subset_range.2 hn') fun j _ hj => ?_
    rw [Finset.mem_range, not_lt] at hj
    unfold kw; rw [if_neg (by omega), zero_mul]
  rw [e]
  refine Finset.sum_congr rfl fun j _ => ?_
  rw [kw_eq]; ring

theorem ratio (x : ℕ → ℕ → ℝ) (b h f q t d n : ℕ) (hn : t < n) (hn' : n ≤ 8192) :
    (∑ j ∈ Finset.range n, kw x b h f q t j * x (8192 * b + j) (2048 + (128 * h + d))) / (∑ j ∈ Finset.range n, kw x b h f q t j)
      = A x b h f t d / L x b h f t := by
  have h1 := sum_kw x b h f q t n (fun j => x (8192 * b + j) (2048 + (128 * h + d))) hn hn'
  have h2 := sum_kw x b h f q t n (fun _ => 1) hn hn'
  simp only [mul_one] at h2
  rw [h1, h2]
  exact mul_div_mul_right _ _ (Real.exp_pos _).ne'

theorem kw_sum_ne (x : ℕ → ℕ → ℝ) (b h f q t n : ℕ) (hn : t < n) (hn' : n ≤ 8192) : ∑ j ∈ Finset.range n, kw x b h f q t j ≠ 0 := by
  have h2 := sum_kw x b h f q t n (fun _ => 1) hn hn'
  simp only [mul_one] at h2
  rw [h2]
  exact mul_ne_zero (L_pos x b h f t (by omega)).ne' (Real.exp_pos _).ne'

end Spec

end
-- ==== Proof.KVal.lean ====
module

public import proofs.«01_k».proof.Proof.Out
public import proofs.«01_k».proof.Proof.Spec

@[expose] public section

set_option maxRecDepth 16384

noncomputable section

namespace Cert.KernelIdeal.Attn

open Idealize.ShloMosaic Idealize.ShloMosaic.TcCoe
open Cert.KernelIdeal Cert.KernelIdeal.Gen
open Online

/-- One softmax's step on a block whose keys start at `512 n`. -/
theorem half (m l : FVec Ideal S512x1 .f32) (a : FVec Ideal S512x128 .f32) (s : FVec Ideal S512x512 .f32) (v : FVec Ideal S512x128 .bf16)
    (ρ y W : ℕ → ℝ) (n t : ℕ) (hn : 512 * n ≤ t) (r : Fin 512) (d : Fin 128) (hW : ∀ j, W j = if j ≤ t then Real.exp (ρ j) else 0)
    (hs : ∀ c : Fin 512, s (ix2 r c) = if 512 * n + c.val ≤ t then ((ρ (512 * n + c.val) : ℝ) : EReal) else ⊥)
    (hv : ∀ c : Fin 512, v (ix2 c d) = ((y (512 * n + c.val) : ℝ) : EReal))
    (h : Inv (m (ix2 r 0)) (l (ix2 r 0)) (a (ix2 r d)) (∑ j ∈ Finset.range (512 * n), W j) (∑ j ∈ Finset.range (512 * n), W j * y j)) :
    Inv (stepM m s (ix2 r 0)) (stepL m l s (ix2 r 0)) (stepA m a s v (ix2 r d))
      (∑ j ∈ Finset.range (512 * (n + 1)), W j) (∑ j ∈ Finset.range (512 * (n + 1)), W j * y j) := by
  have hex : ∀ c : Fin 512, ex (s (ix2 r c)) = W (512 * n + c.val) := fun c => by
    rw [hs, hW]; split
    · exact ex_coe _
    · exact ex_bot
  have hS : ∀ c : Fin 512, Score (s (ix2 r c)) := fun c => by
    rw [hs]; split
    · exact Or.inr ⟨_, rfl⟩
    · exact Or.inl rfl
  have key := h.step (fun c : Fin 512 => s (ix2 r c)) (fun c => y (512 * n + c.val)) hS
    ⟨0, ρ (512 * n), by
      have := hs 0
      rw [if_pos (by simpa using hn)] at this
      simpa using this⟩ (stepM_apply m s r)
  have e : 512 * (n + 1) = 512 * n + 512 := by ring
  rw [e, Finset.sum_range_add, Finset.sum_range_add, stepL_apply, stepA_apply]
  simp only [hex] at key
  simp only [hv]
  rw [Finset.sum_range (fun x => W (512 * n + x)), Finset.sum_range (fun x => W (512 * n + x) * y (512 * n + x))]
  exact key

/-- A sum over the lanes whose query is cut to the first half. -/
theorem lanes_lo (q k : Fin 128 → ℝ) :
    (∑ l : Fin 128, (if l.val < 64 then ((q l : ℝ) : EReal) * ((1 / 8 : ℝ) : EReal) else 0) * ((k l : ℝ) : EReal))
      = ((∑ d : Fin 64, (q ⟨d.val, by omega⟩ * (1 / 8)) * k ⟨d.val, by omega⟩ : ℝ) : EReal) := by
  have e : ∀ l : Fin 128, (if l.val < 64 then ((q l : ℝ) : EReal) * ((1 / 8 : ℝ) : EReal) else 0) * ((k l : ℝ) : EReal)
      = (((if l.val < 64 then q l * (1 / 8) else 0) * k l : ℝ) : EReal) := fun l => by
    split
    · rw [← EReal.coe_mul, ← EReal.coe_mul]
    · rw [zero_mul, zero_mul]; rfl
  simp only [e]
  rw [coe_sum]
  congr 1
  rw [Fin.sum_univ_add (a := 64) (b := 64) (fun l : Fin (64 + 64) => (if l.val < 64 then q l * (1 / 8) else 0) * k l)]
  rw [Finset.sum_eq_zero (s := Finset.univ) (f := fun i : Fin 64 => (if (Fin.natAdd 64 i).val < 64 then q (Fin.natAdd 64 i) * (1 / 8) else 0) * k (Fin.natAdd 64 i)), add_zero]
  · refine Finset.sum_congr rfl fun d _ => ?_
    rw [if_pos (show (Fin.castAdd 64 d).val < 64 from d.isLt)]; rfl
  · intro i _
    rw [if_neg (show ¬ (Fin.natAdd 64 i).val < 64 by simp), zero_mul]

/-- A sum over the lanes whose query is cut to the second half. -/
theorem lanes_hi (q k : Fin 128 → ℝ) :
    (∑ l : Fin 128, (if l.val < 64 then 0 else ((q l : ℝ) : EReal) * ((1 / 8 : ℝ) : EReal)) * ((k l : ℝ) : EReal))
      = ((∑ d : Fin 64, (q ⟨64 + d.val, by omega⟩ * (1 / 8)) * k ⟨64 + d.val, by omega⟩ : ℝ) : EReal) := by
  have e : ∀ l : Fin 128, (if l.val < 64 then 0 else ((q l : ℝ) : EReal) * ((1 / 8 : ℝ) : EReal)) * ((k l : ℝ) : EReal)
      = (((if l.val < 64 then 0 else q l * (1 / 8)) * k l : ℝ) : EReal) := fun l => by
    split
    · rw [zero_mul, zero_mul]; rfl
    · rw [← EReal.coe_mul, ← EReal.coe_mul]
  simp only [e]
  rw [coe_sum]
  congr 1
  rw [Fin.sum_univ_add (a := 64) (b := 64) (fun l : Fin (64 + 64) => (if l.val < 64 then 0 else q l * (1 / 8)) * k l)]
  rw [Finset.sum_eq_zero (s := Finset.univ) (f := fun i : Fin 64 => (if (Fin.castAdd 64 i).val < 64 then 0 else q (Fin.castAdd 64 i) * (1 / 8)) * k (Fin.castAdd 64 i)), zero_add]
  · refine Finset.sum_congr rfl fun d _ => ?_
    rw [if_neg (show ¬ (Fin.natAdd 64 d).val < 64 by simp)]; rfl
  · intro i _
    rw [if_pos (show (Fin.castAdd 64 i).val < 64 from i.isLt), zero_mul]

section Row

variable (i : grid0.Coords) (Q : FVec Ideal S512x128 .bf16) (K V : FVec Ideal S8192x128 .bf16) (x : ℕ → ℕ → ℝ)
  (hQ : ∀ (r : Fin 512) (l : Fin 128), Q (ix2 r l) = ((x (8192 * (i 0).val + (512 * (i 2).val + r.val)) (128 * (i 1).val + l.val) : ℝ) : EReal))
  (hK : ∀ (j : Fin 8192) (l : Fin 128), K (ix2 j l) = ((x (8192 * (i 0).val + j.val) (1024 + (128 * (i 1).val + l.val)) : ℝ) : EReal))
  (hV : ∀ (j : Fin 8192) (l : Fin 128), V (ix2 j l) = ((x (8192 * (i 0).val + j.val) (2048 + (128 * (i 1).val + l.val)) : ℝ) : EReal))

/-- The biased score of key `j` in the kernel's measure. -/
def kr (f : ℕ) (r : Fin 512) (j : ℕ) : ℝ :=
  Spec.dot x (i 0).val (i 1).val f (512 * (i 2).val + r.val) j + Spec.slope (i 1).val * ((j : ℝ) - ((512 * (i 2).val : ℕ) : ℝ))

include hQ hK in
theorem dot_lo (n : ℕ) (off : Fin 2 → ℕ) (inb : ∀ a, off a + S512x128.size a ≤ S8192x128.size a) (hoff : off = ![512 * n, 0]) (r c : Fin 512) (h : 512 * n + c.val < 8192) :
    (∑ l : Fin 128, (k0_pay30 Q) (ix2 r l) * blkAt K off inb (ix2 c l)) = ((Spec.dot x (i 0).val (i 1).val 0 (512 * (i 2).val + r.val) (512 * n + c.val) : ℝ) : EReal) := by
  simp only [pay30_apply, blkAt_apply K n off inb hoff c _ h, hQ, hK]
  refine (lanes_lo (fun l => x (8192 * (i 0).val + (512 * (i 2).val + r.val)) (128 * (i 1).val + l.val)) (fun l => x (8192 * (i 0).val + (512 * n + c.val)) (1024 + (128 * (i 1).val + l.val)))).trans ?_
  congr 1

include hQ hK in
theorem dot_hi (n : ℕ) (off : Fin 2 → ℕ) (inb : ∀ a, off a + S512x128.size a ≤ S8192x128.size a) (hoff : off = ![512 * n, 0]) (r c : Fin 512) (h : 512 * n + c.val < 8192) :
    (∑ l : Fin 128, (k0_pay31 Q) (ix2 r l) * blkAt K off inb (ix2 c l)) = ((Spec.dot x (i 0).val (i 1).val 1 (512 * (i 2).val + r.val) (512 * n + c.val) : ℝ) : EReal) := by
  simp only [pay31_apply, blkAt_apply K n off inb hoff c _ h, hQ, hK]
  exact lanes_hi (fun l => x (8192 * (i 0).val + (512 * (i 2).val + r.val)) (128 * (i 1).val + l.val)) (fun l => x (8192 * (i 0).val + (512 * n + c.val)) (1024 + (128 * (i 1).val + l.val)))

/-- Both softmaxes' running values after `n` blocks. -/
def InvC (C : Car) (r : Fin 512) (d : Fin 128) (n : ℕ) : Prop :=
  Inv (C.1 (ix2 r 0)) (C.2.1 (ix2 r 0)) (C.2.2.1 (ix2 r d))
      (∑ j ∈ Finset.range (512 * n), Spec.kw x (i 0).val (i 1).val 0 (512 * (i 2).val) (512 * (i 2).val + r.val) j)
      (∑ j ∈ Finset.range (512 * n), Spec.kw x (i 0).val (i 1).val 0 (512 * (i 2).val) (512 * (i 2).val + r.val) j * x (8192 * (i 0).val + j) (2048 + (128 * (i 1).val + d.val)))
  ∧ Inv (C.2.2.2.1 (ix2 r 0)) (C.2.2.2.2.1 (ix2 r 0)) (C.2.2.2.2.2 (ix2 r d))
      (∑ j ∈ Finset.range (512 * n), Spec.kw x (i 0).val (i 1).val 1 (512 * (i 2).val) (512 * (i 2).val + r.val) j)
      (∑ j ∈ Finset.range (512 * n), Spec.kw x (i 0).val (i 1).val 1 (512 * (i 2).val) (512 * (i 2).val + r.val) j * x (8192 * (i 0).val + j) (2048 + (128 * (i 1).val + d.val)))

include hV in
/-- A step whose two score blocks are the spec's scores of keys `512 n …`. -/
theorem InvC.step {C : Car} {r : Fin 512} {d : Fin 128} {n : ℕ} (h : InvC i x C r d n) (hn : n ≤ (i 2).val)
    (s1 s2 : FVec Ideal S512x512 .f32) (off : Fin 2 → ℕ) (inb : ∀ a, off a + S512x128.size a ≤ S8192x128.size a) (hoff : off = ![512 * n, 0])
    (h1 : ∀ c : Fin 512, s1 (ix2 r c) = if 512 * n + c.val ≤ 512 * (i 2).val + r.val then ((kr i x 0 r (512 * n + c.val) : ℝ) : EReal) else ⊥)
    (h2 : ∀ c : Fin 512, s2 (ix2 r c) = if 512 * n + c.val ≤ 512 * (i 2).val + r.val then ((kr i x 1 r (512 * n + c.val) : ℝ) : EReal) else ⊥) :
    InvC i x (Attn.step s1 s2 (blkAt V off inb) C) r d (n + 1) := by
  have hi : (i 2).val < 16 := (i 2).isLt
  have hv : ∀ c : Fin 512, blkAt V off inb (ix2 c d) = (((fun j => x (8192 * (i 0).val + j) (2048 + (128 * (i 1).val + d.val))) (512 * n + c.val) : ℝ) : EReal) := fun c => by
    rw [blkAt_apply V n off inb hoff c d (by omega), hV]
  exact ⟨half _ _ _ s1 _ (kr i x 0 r) _ _ n (512 * (i 2).val + r.val) (by omega) r d (fun j => rfl) h1 hv h.1,
    half _ _ _ s2 _ (kr i x 1 r) _ _ n (512 * (i 2).val + r.val) (by omega) r d (fun j => rfl) h2 hv h.2⟩

include hQ hK hV in
theorem invC_carAt (r : Fin 512) (d : Fin 128) (n : ℕ) (hn : n ≤ (i 2).val) : InvC i x (carAt i Q K V n) r d n := by
  have hi : (i 2).val < 16 := (i 2).isLt
  induction n with
  | zero =>
    have e1 : k0_pay33 (F := Ideal) (ix2 r 0) = ⊥ := by pointwise [k0_pay33]; exact mask_bot
    have e2 : k0_pay34 (F := Ideal) (ix2 r 0) = 0 := by pointwise [k0_pay34]
    have e3 : k0_pay35 (F := Ideal) (ix2 r d) = 0 := by pointwise [k0_pay35]
    simp only [InvC, carAt, car0, e1, e2, e3, mul_zero, Finset.range_zero, Finset.sum_empty]
    exact ⟨Inv.init, Inv.init⟩
  | succ n ih =>
    have ht : n < (k0_t1_loop i).trips := by rw [trips1]; omega
    have off := k0_off1_eq i ⟨n, ht⟩
    simp only [carAt, dif_pos ht, carStep]
    have hb : ∀ c : Fin 512, 512 * n + c.val ≤ 512 * (i 2).val + r.val := fun c => by omega
    refine InvC.step i V x hV (ih (by omega)) (by omega) _ _ _ _ off (fun c => ?_) (fun c => ?_)
    · rw [pay3_apply, dot_lo i Q K x hQ hK n _ _ off r c (by omega), pay32_apply, if_pos (hb c), ← EReal.coe_mul, ← EReal.coe_add]
      congr 1
      unfold kr Spec.slope
      push_cast; ring
    · rw [pay4_eq, pay3_apply, dot_hi i Q K x hQ hK n _ _ off r c (by omega), pay32_apply, if_pos (hb c), ← EReal.coe_mul, ← EReal.coe_add]
      congr 1
      unfold kr Spec.slope
      push_cast; ring

include hQ hK hV in
theorem invC_carEnd (r : Fin 512) (d : Fin 128) : InvC i x (carEnd i Q K V) r d ((i 2).val + 1) := by
  have hi : (i 2).val < 16 := (i 2).isLt
  have h := invC_carAt i Q K V x hQ hK hV r d (i 2).val le_rfl
  unfold carEnd
  rw [trips1]
  have off := k0_off3_eq i
  refine InvC.step i V x hV h le_rfl _ _ _ _ off (fun c => ?_) (fun c => ?_)
  · rw [pay40_apply, dot_lo i Q K x hQ hK _ _ _ off r c (by omega), pay32_apply]
    refine if_congr (by omega) ?_ rfl
    rw [← EReal.coe_mul, ← EReal.coe_add]
    congr 1
    unfold kr Spec.slope
    push_cast; ring
  · rw [pay46_eq, pay40_apply, dot_hi i Q K x hQ hK _ _ _ off r c (by omega), pay32_apply]
    refine if_congr (by omega) ?_ rfl
    rw [← EReal.coe_mul, ← EReal.coe_add]
    congr 1
    unfold kr Spec.slope
    push_cast; ring

theorem diffK_apply (C : Car) (lam : FVec Ideal S1x1 .f32) (r : Fin 512) (d : Fin 128) :
    diffK C lam (ix2 r d) = Ideal.div (C.2.2.1 (ix2 r d)) (C.2.1 (ix2 r 0)) - lam (ix2 0 0) * Ideal.div (C.2.2.2.2.2 (ix2 r d)) (C.2.2.2.2.1 (ix2 r 0)) := by
  pointwise [diffK]

theorem normK_apply (o : FVec Ideal S512x128 .f32) (w : FVec Ideal S1x128 .f32) (r : Fin 512) (d : Fin 128) :
    normK o w (ix2 r d) = Spec.tail (fun l => o (ix2 r l)) (fun l => w (ix2 0 l)) d := by
  pointwise [normK, Spec.tail]

theorem lamK_apply (x3 x4 x5 x6 : FVec Ideal S1x64 .f32) :
    lamK x3 x4 x5 x6 (ix2 0 0) = Ideal.exp (∑ l : Fin 64, x3 (ix2 0 l) * x4 (ix2 0 l)) - Ideal.exp (∑ l : Fin 64, x5 (ix2 0 l) * x6 (ix2 0 l)) + Ideal.ofBits .f32 0x3E4CCCCD#32 := by
  pointwise [lamK]

include hQ hK hV in
/-- The output block at an index. -/
theorem outBlk_apply (x3 x4 x5 x6 : FVec Ideal S1x64 .f32) (x7 : FVec Ideal S1x128 .f32) (lam : ℝ)
    (hlam : lamK x3 x4 x5 x6 (ix2 0 0) = (lam : EReal)) (r : Fin 512) (d : Fin 128) :
    outBlk i Q K V x3 x4 x5 x6 x7 (ix2 r d)
      = Spec.tail (fun l => ((Spec.O x lam (i 0).val (i 1).val (512 * (i 2).val + r.val) l.val : ℝ) : EReal)) (fun l => x7 (ix2 0 l)) d := by
  have hi : (i 2).val < 16 := (i 2).isLt
  unfold outBlk
  rw [normK_apply]
  congr 1
  funext l
  have h := invC_carEnd i Q K V x hQ hK hV r l
  have hn := Spec.kw_sum_ne x (i 0).val (i 1).val
  rw [diffK_apply, hlam, h.1.div (hn 0 _ _ _ (by omega) (by omega)), h.2.div (hn 1 _ _ _ (by omega) (by omega)),
    Spec.ratio _ _ _ _ _ _ _ _ (by omega) (by omega), Spec.ratio _ _ _ _ _ _ _ _ (by omega) (by omega), ← EReal.coe_mul, ← EReal.coe_sub]
  rfl

end Row

end Cert.KernelIdeal.Attn

end
-- ==== Proof.KArr.lean ====
module

public import proofs.«01_k».proof.Proof.KVal

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

theorem idx : ∀ t : Fin cfg0.N,
    win0_0.index t = ![(grid0.coords t 0).val * 16 + (grid0.coords t 2).val, (grid0.coords t 1).val]
    ∧ win0_1.index t = ![(grid0.coords t 0).val, 8 + (grid0.coords t 1).val]
    ∧ win0_2.index t = ![(grid0.coords t 0).val, 16 + (grid0.coords t 1).val]
    ∧ win0_3.index t = ![0, 0] ∧ win0_4.index t = ![0, 0] ∧ win0_5.index t = ![0, 0] ∧ win0_6.index t = ![0, 0] ∧ win0_7.index t = ![0, 0]
    ∧ win0_8.index t = ![(grid0.coords t 0).val * 16 + (grid0.coords t 2).val, (grid0.coords t 1).val] :=
  (by decide +kernel : ∀ t : Fin grid0.N, _)

variable (m : (ℓ : Loc nD τ sig) → Buf (Elt Ideal) ℓ) (c : Dev nD) (x : ℕ → ℕ → ℝ)
  (hx : ∀ (a : Fin 32768) (b : Fin 3072), (m ((c : Thread nD τ).loc main_arg0) : FVec Ideal S32768x3072 .bf16) (ix2 a b) = ((x a.val b.val : ℝ) : EReal))

include hx in
theorem blkQ (t : Fin cfg0.N) (r : Fin 512) (l : Fin 128) :
    (iblk m c 0 t : FVec Ideal S512x128 .bf16) (ix2 r l) = ((x (8192 * (grid0.coords t 0).val + (512 * (grid0.coords t 2).val + r.val)) (128 * (grid0.coords t 1).val + l.val) : ℝ) : EReal) := by
  have h0 : (grid0.coords t 0).val < 4 := (grid0.coords t 0).isLt
  have h1 : (grid0.coords t 1).val < 8 := (grid0.coords t 1).isLt
  have h2 : (grid0.coords t 2).val < 16 := (grid0.coords t 2).isLt
  have e : (iblk m c 0 t : FVec Ideal S512x128 .bf16) (ix2 r l)
      = (m ((c : Thread nD τ).loc main_arg0) : FVec Ideal S32768x3072 .bf16)
        (ix2 ⟨8192 * (grid0.coords t 0).val + (512 * (grid0.coords t 2).val + r.val), by omega⟩ ⟨128 * (grid0.coords t 1).val + l.val, by omega⟩) := by
    blk_simp [iblk, V_main_arg0]
    congr 1
    blk_ext [(idx t).1]
  rw [e, hx]

include hx in
theorem blkK (t : Fin cfg0.N) (j : Fin 8192) (l : Fin 128) :
    (iblk m c 1 t : FVec Ideal S8192x128 .bf16) (ix2 j l) = ((x (8192 * (grid0.coords t 0).val + j.val) (1024 + (128 * (grid0.coords t 1).val + l.val)) : ℝ) : EReal) := by
  have h0 : (grid0.coords t 0).val < 4 := (grid0.coords t 0).isLt
  have h1 : (grid0.coords t 1).val < 8 := (grid0.coords t 1).isLt
  have e : (iblk m c 1 t : FVec Ideal S8192x128 .bf16) (ix2 j l)
      = (m ((c : Thread nD τ).loc main_arg0) : FVec Ideal S32768x3072 .bf16)
        (ix2 ⟨8192 * (grid0.coords t 0).val + j.val, by omega⟩ ⟨1024 + (128 * (grid0.coords t 1).val + l.val), by omega⟩) := by
    blk_simp [iblk, V_main_arg0]
    congr 1
    blk_ext [(idx t).2.1]
  rw [e, hx]

include hx in
theorem blkV (t : Fin cfg0.N) (j : Fin 8192) (l : Fin 128) :
    (iblk m c 2 t : FVec Ideal S8192x128 .bf16) (ix2 j l) = ((x (8192 * (grid0.coords t 0).val + j.val) (2048 + (128 * (grid0.coords t 1).val + l.val)) : ℝ) : EReal) := by
  have h0 : (grid0.coords t 0).val < 4 := (grid0.coords t 0).isLt
  have h1 : (grid0.coords t 1).val < 8 := (grid0.coords t 1).isLt
  have e : (iblk m c 2 t : FVec Ideal S8192x128 .bf16) (ix2 j l)
      = (m ((c : Thread nD τ).loc main_arg0) : FVec Ideal S32768x3072 .bf16)
        (ix2 ⟨8192 * (grid0.coords t 0).val + j.val, by omega⟩ ⟨2048 + (128 * (grid0.coords t 1).val + l.val), by omega⟩) := by
    blk_simp [iblk, V_main_arg0]
    congr 1
    blk_ext [(idx t).2.2.1]
  rw [e, hx]

theorem blk3 (t : Fin cfg0.N) : iblk m c 3 t = (m ((c : Thread nD τ).loc main_arg1) : FVec Ideal S1x64 .f32) := by
  funext y; blk_simp [iblk, V_main_arg1]; congr 1; blk_ext [(idx t).2.2.2.1]
theorem blk4 (t : Fin cfg0.N) : iblk m c 4 t = (m ((c : Thread nD τ).loc main_arg2) : FVec Ideal S1x64 .f32) := by
  funext y; blk_simp [iblk, V_main_arg2]; congr 1; blk_ext [(idx t).2.2.2.2.1]
theorem blk5 (t : Fin cfg0.N) : iblk m c 5 t = (m ((c : Thread nD τ).loc main_arg3) : FVec Ideal S1x64 .f32) := by
  funext y; blk_simp [iblk, V_main_arg3]; congr 1; blk_ext [(idx t).2.2.2.2.2.1]
theorem blk6 (t : Fin cfg0.N) : iblk m c 6 t = (m ((c : Thread nD τ).loc main_arg4) : FVec Ideal S1x64 .f32) := by
  funext y; blk_simp [iblk, V_main_arg4]; congr 1; blk_ext [(idx t).2.2.2.2.2.2.1]
theorem blk7 (t : Fin cfg0.N) : iblk m c 7 t = (m ((c : Thread nD τ).loc main_arg5) : FVec Ideal S1x128 .f32) := by
  funext y; blk_simp [iblk, V_main_arg5]; congr 1; blk_ext [(idx t).2.2.2.2.2.2.2.1]

/-- The result at row `a`, column `k`, from the reals of the projections. -/
def valAt (x : ℕ → ℕ → ℝ) (lam : ℝ) (w : Fin 128 → EReal) (a k : ℕ) : EReal :=
  Spec.tail (fun l => ((Spec.O x lam (a / 8192) (k / 128) (a % 8192) l.val : ℝ) : EReal)) w ⟨k % 128, by omega⟩

include hx in
/-- The result array. -/
theorem arr_eq (lam : ℝ)
    (hlam : lamK (m ((c : Thread nD τ).loc main_arg1)) (m ((c : Thread nD τ).loc main_arg2)) (m ((c : Thread nD τ).loc main_arg3)) (m ((c : Thread nD τ).loc main_arg4)) (ix2 0 0) = (lam : EReal)) :
    (dats m 0 c).arrAt 8 cfg0.N
      = fun y : S32768x1024.Idx => valAt x lam (fun l => (m ((c : Thread nD τ).loc main_arg5) : FVec Ideal S1x128 .f32) (ix2 0 l)) (y 0).val (y 1).val := by
  refine (dats m 0 c).arrAt_eq_of_covers 8 _ (by decide +kernel) fun t hf y => ?_
  blk_simp
  rw [after0_8, outs_eq, blk3, blk4, blk5, blk6, blk7]
  have h0 : (grid0.coords t 0).val < 4 := (grid0.coords t 0).isLt
  have h1 : (grid0.coords t 1).val < 8 := (grid0.coords t 1).isLt
  have h2 : (grid0.coords t 2).val < 16 := (grid0.coords t 2).isLt
  have hy : ∃ (r : Fin 512) (d : Fin 128), y = ix2 r d := ⟨y 0, y 1, by funext a; match a with | ⟨0, _⟩ => rfl | ⟨1, _⟩ => rfl⟩
  obtain ⟨r, d, rfl⟩ := hy
  refine (outBlk_apply (grid0.coords t) _ _ _ x (blkQ m c x hx t) (blkK m c x hx t) (blkV m c x hx t) _ _ _ _ _ lam hlam r d).trans ?_
  have i0 : win0_8.index t 0 = (grid0.coords t 0).val * 16 + (grid0.coords t 2).val := by rw [(idx t).2.2.2.2.2.2.2.2]; rfl
  have i1 : win0_8.index t 1 = (grid0.coords t 1).val := by rw [(idx t).2.2.2.2.2.2.2.2]; rfl
  have a1 : (win0_8.index t 0 * 512 + ((ix2 r d : S512x128.Idx) 0).val) / 8192 = (grid0.coords t 0).val := by
    rw [i0]; show (((grid0.coords t 0).val * 16 + (grid0.coords t 2).val) * 512 + r.val) / 8192 = _; omega
  have a2 : (win0_8.index t 1 * 128 + ((ix2 r d : S512x128.Idx) 1).val) / 128 = (grid0.coords t 1).val := by
    rw [i1]; show ((grid0.coords t 1).val * 128 + d.val) / 128 = _; omega
  have a3 : (win0_8.index t 0 * 512 + ((ix2 r d : S512x128.Idx) 0).val) % 8192 = 512 * (grid0.coords t 2).val + r.val := by
    rw [i0]; show (((grid0.coords t 0).val * 16 + (grid0.coords t 2).val) * 512 + r.val) % 8192 = _; omega
  have a4 : (win0_8.index t 1 * 128 + ((ix2 r d : S512x128.Idx) 1).val) % 128 = d.val := by
    rw [i1]; show ((grid0.coords t 1).val * 128 + d.val) % 128 = _; omega
  unfold valAt
  rw [a1, a2, a3]
  exact congrArg _ (Fin.ext a4.symm)

end Cert.KernelIdeal.Attn

end
-- ==== Proof.Ref.lean ====
module

public import proofs.«01_k».proof.Proof.Gen.ReferenceIdeal.Read
public import proofs.«01_k».proof.Proof.Score
public import proofs.«01_k».proof.Proof.Spec

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read
open Cert.KernelIdeal.Attn (bits_zero bits_one bits_neg_one bits_two bits_eighth bits_ninf select_sge sitofp_of)
open Online

variable (x0 : (⟨S32768x3072, .bf16⟩ : BufTy).Contents (Elt Ideal)) (x : ℕ → ℕ → ℝ)
  (hx : ∀ i : S32768x3072.Idx, x0 i = ((x (i 0).val (i 1).val : ℝ) : EReal))

include hx in
theorem v1_eq (i : S4x8192x3072.Idx) : val_main_v1 (F := Ideal) x0 i = ((x (8192 * (i 0).val + (i 1).val) (i 2).val : ℝ) : EReal) := by
  have h0 : (i 0).val < 4 := (i 0).isLt
  have h1 : (i 1).val < 8192 := (i 1).isLt
  have h2 : (i 2).val < 3072 := (i 2).isLt
  rw [val_main_v1_apply, val_main_v0_apply]
  refine (hx _).trans ?_
  have e0 : (idx_main_v1 i 0).val = 8192 * (i 0).val + (i 1).val := by
    show (((i 0).val * 8192 + (i 1).val) * 3072 + (i 2).val) / 3072 = _; omega
  have e1 : (idx_main_v1 i 1).val = (i 2).val := by
    show (((i 0).val * 8192 + (i 1).val) * 3072 + (i 2).val) % 3072 = _; omega
  rw [e0, e1]

include hx in
theorem v5_eq (i : S4x8192x8x2x64.Idx) : val_main_v5 (F := Ideal) x0 i = ((x (8192 * (i 0).val + (i 1).val) (128 * (i 2).val + (64 * (i 3).val + (i 4).val)) : ℝ) : EReal) := by
  have h0 : (i 0).val < 4 := (i 0).isLt
  have h1 : (i 1).val < 8192 := (i 1).isLt
  have h2 : (i 2).val < 8 := (i 2).isLt
  have h3 : (i 3).val < 2 := (i 3).isLt
  have h4 : (i 4).val < 64 := (i 4).isLt
  rw [val_main_v5_apply, val_main_v2_apply, v1_eq x0 x hx]
  have e0 : (idx_main_v2 (idx_main_v5 i) 0).val = (i 0).val := by dsimp; omega
  have e1 : (idx_main_v2 (idx_main_v5 i) 1).val = (i 1).val := by dsimp; omega
  have e2 : (idx_main_v2 (idx_main_v5 i) 2).val = 128 * (i 2).val + (64 * (i 3).val + (i 4).val) := by dsimp; omega
  rw [e0, e1, e2]

include hx in
theorem v8_eq (i : S4x8192x8x2x64.Idx) : val_main_v8 (F := Ideal) x0 i = ((x (8192 * (i 0).val + (i 1).val) (1024 + (128 * (i 2).val + (64 * (i 3).val + (i 4).val))) : ℝ) : EReal) := by
  have h0 : (i 0).val < 4 := (i 0).isLt
  have h1 : (i 1).val < 8192 := (i 1).isLt
  have h2 : (i 2).val < 8 := (i 2).isLt
  have h3 : (i 3).val < 2 := (i 3).isLt
  have h4 : (i 4).val < 64 := (i 4).isLt
  rw [val_main_v8_apply, val_main_v3_apply, v1_eq x0 x hx]
  have e0 : (idx_main_v3 (idx_main_v8 i) 0).val = (i 0).val := by dsimp; omega
  have e1 : (idx_main_v3 (idx_main_v8 i) 1).val = (i 1).val := by dsimp; omega
  have e2 : (idx_main_v3 (idx_main_v8 i) 2).val = 1024 + (128 * (i 2).val + (64 * (i 3).val + (i 4).val)) := by dsimp; omega
  rw [e0, e1, e2]

include hx in
theorem v9_eq (i : S4x8192x8x128.Idx) : val_main_v9 (F := Ideal) x0 i = ((x (8192 * (i 0).val + (i 1).val) (2048 + (128 * (i 2).val + (i 3).val)) : ℝ) : EReal) := by
  have h0 : (i 0).val < 4 := (i 0).isLt
  have h1 : (i 1).val < 8192 := (i 1).isLt
  have h2 : (i 2).val < 8 := (i 2).isLt
  have h3 : (i 3).val < 128 := (i 3).isLt
  rw [val_main_v9_apply, val_main_v4_apply, v1_eq x0 x hx]
  have e0 : (idx_main_v4 (idx_main_v9 i) 0).val = (i 0).val := by dsimp; omega
  have e1 : (idx_main_v4 (idx_main_v9 i) 1).val = (i 1).val := by dsimp; omega
  have e2 : (idx_main_v4 (idx_main_v9 i) 2).val = 2048 + (128 * (i 2).val + (i 3).val) := by dsimp; omega
  rw [e0, e1, e2]

include hx in
theorem v36_eq (i : S4x8x2x8192x8192.Idx) : val_main_v36 (F := Ideal) x0 i = ((Spec.dot x (i 0).val (i 1).val (i 2).val (i 3).val (i 4).val : ℝ) : EReal) := by
  rw [val_main_v36_apply]
  unfold Spec.dot
  rw [← coe_sum]
  refine Finset.sum_congr rfl fun k _ => ?_
  rw [val_main_v7_apply, v5_eq x0 x hx, v8_eq x0 x hx, val_main_v6_apply, val_main_cst_apply]
  rw [EReal.coe_mul, EReal.coe_mul, ← bits_eighth]
  rfl

theorem v28_eq (i : S8.Idx) : val_main_v28 (F := Ideal) i = ((Spec.slope (i 0).val : ℝ) : EReal) := by
  have h0 : (i 0).val < 8 := (i 0).isLt
  rw [val_main_v28_apply, val_main_v27_apply, val_main_cst_5_apply, val_main_v26_apply, val_main_v25_apply, val_main_cst_4_apply, val_main_v24_apply, val_main_v23_apply, val_main_cst_3_apply]
  have e : val_main_v22 (F := Ideal) i = (((i 0).val : ℝ) : EReal) := by
    refine (sitofp_of (a := BitVec.ofNat 32 (i 0).val) (Affine.ofNat (e := ((i 0).val : ℤ)) _ ⟨rfl, by omega⟩)).trans ?_
    norm_cast
  rw [e]
  show Ideal.pow (Ideal.ofBits .f32 0x40000000#32) (Ideal.ofBits .f32 0xBF800000#32 * (Ideal.ofBits .f32 0x3F800000#32 + (((i 0).val : ℝ) : EReal))) = _
  rw [bits_two, bits_neg_one, bits_one, ← EReal.coe_add, ← EReal.coe_mul, Ideal.pow_coe_coe]
  unfold Spec.slope
  congr 2
  ring

theorem v35_int (i : S8192x8192.Idx) : Affine.IsInt (val_main_v35 (F := Ideal) i) ((i 0).val - (i 1).val : ℤ) := by
  have h0 : (i 0).val < 8192 := (i 0).isLt
  have h1 : (i 1).val < 8192 := (i 1).isLt
  rw [val_main_v35_apply, val_main_v33_apply, val_main_v34_apply, val_main_v31_apply, val_main_v32_apply, val_main_v30_apply, val_main_v29_apply]
  show Affine.IsInt (IntOp.subi (BitVec.ofNat 32 (i 0).val) (BitVec.ofNat 32 (i 1).val)) _
  exact Affine.subi (Affine.ofNat (e := ((i 0).val : ℤ)) _ ⟨rfl, by omega⟩) (Affine.ofNat (e := ((i 1).val : ℤ)) _ ⟨rfl, by omega⟩) (by omega)

include hx in
theorem v45_eq (i : S4x8x2x8192x8192.Idx) : val_main_v45 (F := Ideal) x0 i = ((Spec.sc x (i 0).val (i 1).val (i 2).val (i 3).val (i 4).val : ℝ) : EReal) := by
  rw [val_main_v45_apply, v36_eq x0 x hx, val_main_v44_apply, val_main_v43_apply, val_main_v42_apply, val_main_v40_apply, val_main_v37_apply, v28_eq,
    val_main_v41_apply, val_main_v39_apply, val_main_v38_apply, sitofp_of (v35_int _)]
  unfold Spec.sc
  rw [EReal.coe_sub, EReal.coe_mul]
  norm_cast

include hx in
theorem v48_eq (i : S4x8x2x8192x8192.Idx) : val_main_v48 (F := Ideal) x0 i
    = if (i 4).val ≤ (i 3).val then ((Spec.sc x (i 0).val (i 1).val (i 2).val (i 3).val (i 4).val : ℝ) : EReal) else ⊥ := by
  rw [val_main_v48_apply, v45_eq x0 x hx, val_main_call0_v1_apply, val_main_v47_apply, val_main_call0_v2_apply, val_main_call0_v0_apply, val_main_cst_6_apply]
  refine (select_sge _ _ _ _ (v35_int _) (show Affine.IsInt (val_main_v46 (F := Ideal) _) 0 from ?_)).trans ?_
  · exact Affine.ofNat 0 (by omega)
  · refine if_congr ?_ rfl bits_ninf
    show (0 : ℤ) ≤ ((i 3).val : ℤ) - ((i 4).val : ℤ) ↔ _
    omega

theorem max_row (y : S4x8x2x8192x8192.Idx → EReal) (z : S_.Idx → EReal) (hz : z (Shape.Idx.first h_S_) = ⊥) (i : S4x8x2x8192.Idx) :
    Host.reduce (FloatOps.maximumf (F := Ideal) (φ := .f32)) y z reducesTo_S4x8x2x8192x8192_S4x8x2x8192_d4 h_S_ i
      = (Finset.univ : Finset (Fin 8192)).fold max ⊥ fun k => y (idx_main_v56 i k) := by
  have h := Host.reduce_eq_fold_single (α := EReal) max y z reducesTo_S4x8x2x8192x8192_S4x8x2x8192_d4 (by decide) h_S_ i
  rw [hz] at h
  refine h.trans ?_
  refine Finset.fold_congr (s := (Finset.univ : Finset (Fin 8192))) fun k _ => ?_
  exact congrArg y (funext fun a => Fin.ext (by match a with | ⟨0, _⟩ => rfl | ⟨1, _⟩ => rfl | ⟨2, _⟩ => rfl | ⟨3, _⟩ => rfl | ⟨4, _⟩ => rfl))

/-- The row's maximum. -/
theorem v51_eq (i : S4x8x2x8192.Idx) : val_main_v51 (F := Ideal) x0 i
    = max ⊥ ((Finset.univ : Finset (Fin 8192)).fold max ⊥ fun k => val_main_v48 (F := Ideal) x0 (idx_main_v56 i k)) := by
  rw [val_main_v51_apply, val_main_v50_apply, val_main_cst_8_apply]
  show max (Ideal.ofBits .f32 0xFF800000#32) _ = _
  rw [bits_ninf]
  refine congrArg (max ⊥) ?_
  unfold val_main_v49
  exact max_row _ _ bits_ninf i

include hx in
/-- The softmax's entry. -/
theorem v59_eq (i : S4x8x2x8192x8192.Idx) : val_main_v59 (F := Ideal) x0 i
    = ((Spec.wt x (i 0).val (i 1).val (i 2).val (i 3).val (i 4).val / Spec.L x (i 0).val (i 1).val (i 2).val (i 3).val : ℝ) : EReal) := by
  have h3 : (i 3).val < 8192 := (i 3).isLt
  have h55 : ∀ j : S4x8x2x8192x8192.Idx, val_main_v55 (F := Ideal) x0 j
      = Ideal.exp (val_main_v48 (F := Ideal) x0 j - val_main_v51 (F := Ideal) x0 (idx_main_v52 (idx_main_v53 j))) := fun j => by
    rw [val_main_v55_apply, val_main_v54_apply, val_main_v53_apply, val_main_v52_apply]; rfl
  let s : Fin 8192 → EReal := fun k => val_main_v48 (F := Ideal) x0 (idx_main_v56 (idx_main_v57 (idx_main_v58 i)) k)
  have hs : ∀ k : Fin 8192, s k = if k.val ≤ (i 3).val then ((Spec.sc x (i 0).val (i 1).val (i 2).val (i 3).val k.val : ℝ) : EReal) else ⊥ := fun k => v48_eq x0 x hx _
  have hS : ∀ k, Score (s k) := fun k => by
    rw [hs]; split
    · exact Or.inr ⟨_, rfl⟩
    · exact Or.inl rfl
  have hex : ∀ k : Fin 8192, ex (s k) = Spec.wt x (i 0).val (i 1).val (i 2).val (i 3).val k.val := fun k => by
    rw [hs]; unfold Spec.wt; split
    · exact ex_coe _
    · exact ex_bot
  have hne : ∃ k, ∃ r : ℝ, s k = (r : EReal) := ⟨⟨(i 3).val, h3⟩, _, by rw [hs, if_pos le_rfl]⟩
  have key := softmax s hS hne (v51_eq x0 (idx_main_v57 (idx_main_v58 i))) (⟨(i 4).val, (i 4).isLt⟩ : Fin 8192)
  simp only [hex] at key
  rw [← Finset.sum_range (fun k => Spec.wt x (i 0).val (i 1).val (i 2).val (i 3).val k)] at key
  rw [val_main_v59_apply, val_main_v58_apply, val_main_v57_apply, val_main_v56_apply]
  refine Eq.trans ?_ key
  have ez : val_main_cst_9 (F := Ideal) (Shape.Idx.first h_S_) = 0 := bits_zero
  rw [ez, zero_add]
  simp only [h55]
  have ei : idx_main_v56 (idx_main_v57 (idx_main_v58 i)) (⟨(i 4).val, (i 4).isLt⟩ : Fin 8192) = i := funext fun a => Fin.ext (by match a with | ⟨0, _⟩ => rfl | ⟨1, _⟩ => rfl | ⟨2, _⟩ => rfl | ⟨3, _⟩ => rfl | ⟨4, _⟩ => rfl)
  simp only [s, ei]
  rfl

variable (x1 x2 x3 x4 : (⟨S1x64, .f32⟩ : BufTy).Contents (Elt Ideal)) (x5 : (⟨S1x128, .f32⟩ : BufTy).Contents (Elt Ideal))

theorem lam_eq (i : S_.Idx) : val_main_v21 (F := Ideal) x1 x2 x3 x4 i
    = Ideal.exp (∑ l : Fin 64, x1 (ValueIdx.ix2 0 l) * x2 (ValueIdx.ix2 0 l)) - Ideal.exp (∑ l : Fin 64, x3 (ValueIdx.ix2 0 l) * x4 (ValueIdx.ix2 0 l)) + Ideal.ofBits .f32 0x3E4CCCCD#32 := by
  rw [val_main_v21_apply, val_main_v20_apply, val_main_v14_apply, val_main_v19_apply, val_main_v13_apply, val_main_v18_apply, val_main_cst_2_apply]
  have e0 : val_main_cst_0 (F := Ideal) (Shape.Idx.first h_S_) = 0 := bits_zero
  have e1 : val_main_cst_1 (F := Ideal) (Shape.Idx.first h_S_) = 0 := bits_zero
  rw [e0, e1, zero_add, zero_add]
  have e2 : ∀ j : S64.Idx, val_main_v12 (F := Ideal) x1 x2 j = x1 (ValueIdx.ix2 0 (j 0)) * x2 (ValueIdx.ix2 0 (j 0)) := fun j => by
    have hj : (j 0).val < 64 := (j 0).isLt
    rw [val_main_v12_apply, val_main_v10_apply, val_main_v11_apply]
    have e : idx_main_v10 j = ValueIdx.ix2 0 (j 0) := funext fun a => Fin.ext (by match a with | ⟨0, _⟩ => rfl | ⟨1, _⟩ => exact Nat.mod_eq_of_lt hj)
    have e' : idx_main_v11 j = ValueIdx.ix2 0 (j 0) := funext fun a => Fin.ext (by match a with | ⟨0, _⟩ => rfl | ⟨1, _⟩ => exact Nat.mod_eq_of_lt hj)
    rw [e, e']; rfl
  have e3 : ∀ j : S64.Idx, val_main_v17 (F := Ideal) x3 x4 j = x3 (ValueIdx.ix2 0 (j 0)) * x4 (ValueIdx.ix2 0 (j 0)) := fun j => by
    have hj : (j 0).val < 64 := (j 0).isLt
    rw [val_main_v17_apply, val_main_v15_apply, val_main_v16_apply]
    have e : idx_main_v15 j = ValueIdx.ix2 0 (j 0) := funext fun a => Fin.ext (by match a with | ⟨0, _⟩ => rfl | ⟨1, _⟩ => exact Nat.mod_eq_of_lt hj)
    have e' : idx_main_v16 j = ValueIdx.ix2 0 (j 0) := funext fun a => Fin.ext (by match a with | ⟨0, _⟩ => rfl | ⟨1, _⟩ => exact Nat.mod_eq_of_lt hj)
    rw [e, e']; rfl
  have E : ∀ g : Fin 64 → EReal, (∑ j : S64.Idx, g (j 0)) = ∑ l : Fin 64, g l := fun g =>
    Fintype.sum_equiv ⟨fun j => j 0, fun l => ValueIdx.ix1 l, fun j => funext fun a => by match a with | ⟨0, _⟩ => rfl, fun l => rfl⟩ _ _ fun j => rfl
  simp only [e2, e3]
  rw [E fun l => x1 (ValueIdx.ix2 0 l) * x2 (ValueIdx.ix2 0 l), E fun l => x3 (ValueIdx.ix2 0 l) * x4 (ValueIdx.ix2 0 l)]
  rfl

variable (lam : ℝ) (hlam : ∀ i : S_.Idx, val_main_v21 (F := Ideal) x1 x2 x3 x4 i = (lam : EReal))

include hx hlam in
/-- The difference of the two softmaxes, at an entry. -/
theorem v66_eq (i : S4x8x8192x8192.Idx) : val_main_v66 (F := Ideal) x0 x1 x2 x3 x4 i
    = ((Spec.wt x (i 0).val (i 1).val 0 (i 2).val (i 3).val / Spec.L x (i 0).val (i 1).val 0 (i 2).val
        - lam * (Spec.wt x (i 0).val (i 1).val 1 (i 2).val (i 3).val / Spec.L x (i 0).val (i 1).val 1 (i 2).val) : ℝ) : EReal) := by
  have h0 : (i 0).val < 4 := (i 0).isLt
  have h1 : (i 1).val < 8 := (i 1).isLt
  have h2 : (i 2).val < 8192 := (i 2).isLt
  have h3 : (i 3).val < 8192 := (i 3).isLt
  rw [val_main_v66_apply, val_main_v61_apply, val_main_v60_apply, v59_eq x0 x hx, val_main_v65_apply, val_main_v64_apply, hlam, val_main_v63_apply, val_main_v62_apply, v59_eq x0 x hx]
  have a0 : (idx_main_v60 (idx_main_v61 i) 0).val = (i 0).val := by dsimp; omega
  have a1 : (idx_main_v60 (idx_main_v61 i) 1).val = (i 1).val := by dsimp; omega
  have a2 : (idx_main_v60 (idx_main_v61 i) 2).val = 0 := by dsimp
  have a3 : (idx_main_v60 (idx_main_v61 i) 3).val = (i 2).val := by dsimp; omega
  have a4 : (idx_main_v60 (idx_main_v61 i) 4).val = (i 3).val := by dsimp; omega
  have b2 : (idx_main_v62 (idx_main_v63 i) 2).val = 1 := by dsimp
  rw [a0, a1, a2, a3, a4, b2, EReal.coe_sub, EReal.coe_mul]
  rfl

include hx hlam in
/-- The attention's output before the norm. -/
theorem v68_eq (i : S4x8192x8x128.Idx) : val_main_v68 (F := Ideal) x0 x1 x2 x3 x4 i
    = ((Spec.O x lam (i 0).val (i 2).val (i 1).val (i 3).val : ℝ) : EReal) := by
  rw [val_main_v68_apply, val_main_v67_apply]
  have e : ∀ k : Fin 8192, val_main_v9 (F := Ideal) x0 (lidx_main_v67 (idx_main_v68 i) k) * val_main_v66 (F := Ideal) x0 x1 x2 x3 x4 (ridx_main_v67 (idx_main_v68 i) k)
      = (((fun j : ℕ => x (8192 * (i 0).val + j) (2048 + (128 * (i 2).val + (i 3).val))
          * (Spec.wt x (i 0).val (i 2).val 0 (i 1).val j / Spec.L x (i 0).val (i 2).val 0 (i 1).val
            - lam * (Spec.wt x (i 0).val (i 2).val 1 (i 1).val j / Spec.L x (i 0).val (i 2).val 1 (i 1).val))) k.val : ℝ) : EReal) := fun k => by
    rw [v9_eq x0 x hx, v66_eq x0 x hx x1 x2 x3 x4 lam hlam, ← EReal.coe_mul]
  rw [Finset.sum_congr rfl fun k _ => e k, coe_sum]
  refine congrArg _ ((Finset.sum_range fun j : ℕ => x (8192 * (i 0).val + j) (2048 + (128 * (i 2).val + (i 3).val))
          * (Spec.wt x (i 0).val (i 2).val 0 (i 1).val j / Spec.L x (i 0).val (i 2).val 0 (i 1).val
            - lam * (Spec.wt x (i 0).val (i 2).val 1 (i 1).val j / Spec.L x (i 0).val (i 2).val 1 (i 1).val))).symm.trans ?_)
  unfold Spec.O Spec.A
  rw [Finset.sum_div, Finset.sum_div, Finset.mul_sum, ← Finset.sum_sub_distrib]
  refine Finset.sum_congr rfl fun j _ => ?_
  ring

include hx hlam in
/-- The reference's result at an index. -/
theorem v86_eq (i : S32768x1024.Idx) : val_main_v86 (F := Ideal) x0 x1 x2 x3 x4 x5 i
    = Spec.tail (fun l => ((Spec.O x lam ((i 0).val / 8192) ((i 1).val / 128) ((i 0).val % 8192) l.val : ℝ) : EReal)) (fun l => x5 (ValueIdx.ix2 0 l)) ⟨(i 1).val % 128, by omega⟩ := by
  have h0 : (i 0).val < 32768 := (i 0).isLt
  have h1 : (i 1).val < 1024 := (i 1).isLt
  rw [val_main_v86_apply, val_main_v85_apply, val_main_v84_apply, val_main_v83_apply, val_main_cst_13_apply, val_main_v82_apply, val_main_v81_apply, val_main_v80_apply, val_main_v69_apply,
    val_main_v79_apply, val_main_v78_apply, val_main_v77_apply, val_main_v76_apply, val_main_v75_apply, val_main_cst_12_apply, val_main_v74_apply, val_main_v73_apply, val_main_cst_11_apply, val_main_v72_apply, val_main_v71_apply]
  have ez : val_main_cst_10 (F := Ideal) (Shape.Idx.first h_S_) = 0 := bits_zero
  rw [ez, zero_add]
  simp only [val_main_v70_apply, v68_eq x0 x hx x1 x2 x3 x4 lam hlam]
  have a0 : ((i 0).val * 1024 + (i 1).val) / 8388608 = (i 0).val / 8192 := by omega
  have a1 : ((i 0).val * 1024 + (i 1).val) / 1024 % 8192 = (i 0).val % 8192 := by omega
  have a2 : ((i 0).val * 1024 + (i 1).val) / 128 % 8 = (i 1).val / 128 := by omega
  have a3 : ((i 0).val * 1024 + (i 1).val) % 128 = (i 1).val % 128 := by omega
  rw [a0, a1, a2, a3]
  have ew : idx_main_v69 (idx_main_v80 (idx_main_v81 (idx_main_v85 i))) = ValueIdx.ix2 0 ⟨(i 1).val % 128, by omega⟩ := funext fun a => Fin.ext (by
    match a with
    | ⟨0, _⟩ => rfl
    | ⟨1, _⟩ => dsimp; omega)
  rw [ew]
  rfl

end Cert.ReferenceIdeal.Attn

end
-- ==== Proof.Attn.lean ====
module

public import proofs.«01_k».proof.Defs
public import proofs.«01_k».proof.Proof.Gen.Kernel.Frame
public import proofs.«01_k».proof.Proof.KArr
public import proofs.«01_k».proof.Proof.Ref
public import Idealize.ShloMosaic.Adequacy
public import Idealize.ShloMosaic.Init

@[expose] public section

set_option maxRecDepth 16384

noncomputable section

/-- The predicate's stated facts. -/
theorem Cert.Pre_finite.facts : Cert.Pre_finite.Facts where
  bitsLt_bf16_f32 := by decide
  bcast_S_S32768x3072 := by decide
  bcast_S_S1x64 := by decide

namespace AttnClaims

open Idealize.ShloMosaic Idealize.ShloMosaic.TcCoe Idealize.SL.Sem
open Cert.KernelIdeal.Attn (bits_inf bits_fifth)

/-- An extended real whose absolute value compares below plus infinity is a real. -/
theorem real_of_cmp (a : EReal) (h : Ideal.cmp .olt (max a (-a)) (Ideal.ofBits .f32 0x7F800000#32) = 1#1) : ∃ r : ℝ, a = (r : EReal) := by
  rw [bits_inf] at h
  have h' : max a (-a) < ⊤ := by
    by_contra hn
    simp [Ideal.cmp, hn] at h
  induction a with
  | bot => simp at h'
  | top => simp at h'
  | coe r => exact ⟨r, rfl⟩

/-- A sum of products of reals is a real. -/
theorem real_dot (f g : Fin 64 → EReal) (hf : ∀ l, ∃ r : ℝ, f l = (r : EReal)) (hg : ∀ l, ∃ r : ℝ, g l = (r : EReal)) :
    ∃ r : ℝ, (∑ l : Fin 64, f l * g l) = (r : EReal) := by
  choose f' hf' using hf
  choose g' hg' using hg
  refine ⟨∑ l, f' l * g' l, ?_⟩
  rw [← Online.coe_sum]
  exact Finset.sum_congr rfl fun l _ => by rw [hf', hg', EReal.coe_mul]

section
variable [Cert.Pre_finite.Facts] (x0 : FVec Ideal Cert.KernelIdeal.S32768x3072 .bf16) (x1 x2 x3 x4 : FVec Ideal Cert.KernelIdeal.S1x64 .f32) (x5 : FVec Ideal Cert.KernelIdeal.S1x128 .f32)

theorem fin0 (h : (Cert.Pre_finite.fn (F := Ideal) x0 x1 x2 x3 x4 x5).1 = fun _ => 1#1) (i : Cert.KernelIdeal.S32768x3072.Idx) : ∃ r : ℝ, x0 i = (r : EReal) := real_of_cmp _ (congrFun h i)
theorem fin1 (h : (Cert.Pre_finite.fn (F := Ideal) x0 x1 x2 x3 x4 x5).2.1 = fun _ => 1#1) (i : Cert.KernelIdeal.S1x64.Idx) : ∃ r : ℝ, x1 i = (r : EReal) := real_of_cmp _ (congrFun h i)
theorem fin2 (h : (Cert.Pre_finite.fn (F := Ideal) x0 x1 x2 x3 x4 x5).2.2.1 = fun _ => 1#1) (i : Cert.KernelIdeal.S1x64.Idx) : ∃ r : ℝ, x2 i = (r : EReal) := real_of_cmp _ (congrFun h i)
theorem fin3 (h : (Cert.Pre_finite.fn (F := Ideal) x0 x1 x2 x3 x4 x5).2.2.2.1 = fun _ => 1#1) (i : Cert.KernelIdeal.S1x64.Idx) : ∃ r : ℝ, x3 i = (r : EReal) := real_of_cmp _ (congrFun h i)
theorem fin4 (h : (Cert.Pre_finite.fn (F := Ideal) x0 x1 x2 x3 x4 x5).2.2.2.2 = fun _ => 1#1) (i : Cert.KernelIdeal.S1x64.Idx) : ∃ r : ℝ, x4 i = (r : EReal) := real_of_cmp _ (congrFun h i)

end

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite (hPre_finite := Cert.Pre_finite.facts) := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite (hPre_finite := Cert.Pre_finite.facts) := fun m ρ _ => frame_ri m ρ trivial

/-- The mask's name is the constant it replaces. -/
theorem preserves : Cert.preserves_Kernel_KernelIdeal :=
  IdealRules.named_const.statement Cert.KernelIdeal.κ "mask" .f32 0xF149F2CA#32 ⊥ rfl

/-- The two results are equal. -/
theorem algebraic : Cert.algebraic_KernelIdeal_ReferenceIdeal_pre_finite (hPre_finite := Cert.Pre_finite.facts) := by
  intro m g m' g' hpre hm
  refine ⟨fun c => (Cert.KernelIdeal.Gen.dats m 0 c).arrAt 8 Cert.KernelIdeal.cfg0.N, Cert.KernelIdeal.Value.run_blocks m g,
    (θ_run Cert.ReferenceIdeal.defs _ _).mono (fun r h c => ⟨(h c).1.trans ?_, (h c).2⟩) (Cert.ReferenceIdeal.Value.run (F := Ideal) m' g')⟩
  rw [Cert.ReferenceIdeal.Read.val_main_v86_eq, (hm c).1, (hm c).2.1, (hm c).2.2.1, (hm c).2.2.2.1, (hm c).2.2.2.2.1, (hm c).2.2.2.2.2]
  haveI := Cert.Pre_finite.facts
  obtain ⟨p0, p1, p2, p3, p4⟩ := hpre c
  have f0 := fin0 _ _ _ _ _ _ p0
  have f1 := fin1 _ _ _ _ _ _ p1
  have f2 := fin2 _ _ _ _ _ _ p2
  have f3 := fin3 _ _ _ _ _ _ p3
  have f4 := fin4 _ _ _ _ _ _ p4
  choose X hX using f0
  have hx : ∃ x : ℕ → ℕ → ℝ, ∀ (a : Fin 32768) (b : Fin 3072), x a.val b.val = X (ValueIdx.ix2 a b) :=
    ⟨fun a b => if h : a < 32768 ∧ b < 3072 then X (ValueIdx.ix2 ⟨a, h.1⟩ ⟨b, h.2⟩) else 0, fun a b => dif_pos ⟨a.isLt, b.isLt⟩⟩
  obtain ⟨x, hx⟩ := hx
  obtain ⟨r1, e1⟩ := real_dot _ _ (fun l => f1 (ValueIdx.ix2 0 l)) (fun l => f2 (ValueIdx.ix2 0 l))
  obtain ⟨r2, e2⟩ := real_dot _ _ (fun l => f3 (ValueIdx.ix2 0 l)) (fun l => f4 (ValueIdx.ix2 0 l))
  obtain ⟨r3, e3⟩ := bits_fifth
  have hK := Cert.KernelIdeal.Attn.arr_eq m c x (fun a b => (hX (ValueIdx.ix2 a b)).trans (congrArg _ (hx a b).symm)) (Real.exp r1 - Real.exp r2 + r3)
    ((Cert.KernelIdeal.Attn.lamK_apply _ _ _ _).trans ((congrArg₂ (fun s t => Ideal.exp s - Ideal.exp t + Ideal.ofBits .f32 0x3E4CCCCD#32) e1 e2).trans (by rw [e3]; rfl)))
  refine Eq.trans ?_ hK.symm
  funext i
  refine (Cert.ReferenceIdeal.Attn.v86_eq _ x (fun i => ?_) _ _ _ _ _ (Real.exp r1 - Real.exp r2 + r3) (fun i => ?_) i).trans rfl
  · have hi : i = ValueIdx.ix2 (i 0) (i 1) := funext fun a => by match a with | ⟨0, _⟩ => rfl | ⟨1, _⟩ => rfl
    exact (hX i).trans (congrArg _ ((congrArg X hi).trans (hx (i 0) (i 1)).symm))
  · rw [Cert.ReferenceIdeal.Attn.lam_eq]
    exact (congrArg₂ (fun s t => Ideal.exp s - Ideal.exp t + Ideal.ofBits .f32 0x3E4CCCCD#32) e1 e2).trans (by rw [e3]; rfl)

end AttnClaims

end
-- ==== Proof.Norm.lean ====
module

public import proofs.«01_k».proof.Proof.Consts

@[expose] public section

noncomputable section

namespace Norm

open Idealize.ShloMosaic

/-- A row of 2048 over its root mean square, times the weight. -/
def rms (v w : Fin 2048 → EReal) (l : Fin 2048) : EReal :=
  v l * Ideal.rsqrt (Ideal.div (∑ k, v k * v k) (Ideal.ofBits .f32 0x45000000#32) + Ideal.ofBits .f32 0x358637BD#32) * w l

end Norm

end
-- ==== Proof.ProjBody.lean ====
module

public import proofs.«01_k».proof.Proof.Gen.ProjIdeal.Value
public import proofs.«01_k».proof.Proof.Norm
public import Idealize.ShloMosaic.Lib.Pipeline.ValueKit

@[expose] public section

set_option maxRecDepth 16384

noncomputable section

namespace Cert.ProjIdeal.Calc

open Idealize.ShloMosaic Idealize.ShloMosaic.TcCoe Idealize.ShloMosaic.Tactic
open Cert.ProjIdeal Cert.ProjIdeal.Gen

section
variable (c : Dev nD) (i : grid0.Coords) (arg2 : Memref sig .tc .vmem S512x2048 .f32) (h2 : arg2.IsWhole) (arg3 : Memref sig .tc .vmem S1x2048 .f32) (h3 : arg3.IsWhole)
  (arg4 : Memref sig .tc .vmem S2048x1024 .bf16) (h4 : arg4.IsWhole) (arg5 : Memref sig .tc .vmem S512x1024 .bf16) (h5 : arg5.IsWhole) (arg6 : Memref sig .tc .vmem S512x2048 .bf16) (h6 : arg6.IsWhole)
  (x : Vec Ideal S512x2048 .f32) (n : Vec Ideal S1x2048 .f32) (w : Vec Ideal S2048x1024 .bf16) (h : Vec Ideal S512x2048 .bf16)

theorem soutA_eq (hc : cond0_0 i) : sout0_A_0 (F := Ideal) c i arg2 h2 arg3 h3 arg4 h4 arg5 h5 arg6 h6 hc x n w = k0_pay1 (F := Ideal) x n := by
  unfold sout0_A_0
  rw [View.read_writes_eq_canon _ _ _ (scover0_A_0 c i arg2 h2 arg3 h3 arg4 h4 arg5 h5 arg6 h6 hc x n w)]
  unfold kernelRun0_A
  dsimp only
  sl_unfold_words
  simp only [View.readAt_eq_ld, h2.read_unread, h3.read_unread]
  rw [View.canon_unit_zero (by decide)]
  simp only [View.ld_unit_zero (S := S512x2048) (off := ![0, 0]) (by decide), View.ld_unit_zero (S := S1x2048) (off := ![0, 0]) (by decide)]

theorem outA_eq (hc : cond0_0 i) : out0_A_3 (F := Ideal) c i arg2 h2 arg3 h3 arg4 h4 arg5 h5 arg6 h6 hc x n w = k0_pay2 (F := Ideal) (k0_pay1 (F := Ideal) x n) w := by
  unfold out0_A_3
  rw [View.read_writes_eq_canon _ _ _ (cover0_A_3 c i arg2 h2 arg3 h3 arg4 h4 arg5 h5 arg6 h6 hc x n w)]
  unfold kernelRun0_A
  dsimp only
  sl_unfold_words
  simp only [View.readAt_eq_ld, h2.read_unread, h3.read_unread, h4.read_unread]
  rw [View.canon_unit_zero (by decide)]
  simp only [View.ld_unit_zero (S := S512x2048) (off := ![0, 0]) (by decide), View.ld_unit_zero (S := S1x2048) (off := ![0, 0]) (by decide), View.ld_unit_zero (S := S2048x1024) (off := ![0, 0]) (by decide)]
  exact congrArg (fun z => k0_pay2 (F := Ideal) z w) (View.readCov_cons_toLoadRect arg6.view _ _ _)

theorem outB_eq (hc : ¬cond0_0 i) : out0_B_3 (F := Ideal) c i arg2 h2 arg3 h3 arg4 h4 arg5 h5 arg6 h6 hc x n w h = k0_pay2 (F := Ideal) h w := by
  unfold out0_B_3
  rw [View.read_writes_eq_canon _ _ _ (cover0_B_3 c i arg2 h2 arg3 h3 arg4 h4 arg5 h5 arg6 h6 hc x n w h)]
  unfold kernelRun0_B
  dsimp only
  sl_unfold_words
  simp only [View.readAt_eq_ld, h6.read_unread, h4.read_unread]
  rw [View.canon_unit_zero (by decide)]
  simp only [View.ld_unit_zero (S := S512x2048) (off := ![0, 0]) (by decide), View.ld_unit_zero (S := S2048x1024) (off := ![0, 0]) (by decide)]

theorem soutB_eq (hc : ¬cond0_0 i) : sout0_B_0 (F := Ideal) c i arg2 h2 arg3 h3 arg4 h4 arg5 h5 arg6 h6 hc x n w h = h := rfl
end

end Cert.ProjIdeal.Calc

end
-- ==== Proof.ProjVal.lean ====
module

public import proofs.«01_k».proof.Proof.ProjBody

@[expose] public section

set_option maxRecDepth 16384

noncomputable section

namespace Cert.ProjIdeal.Calc

open Idealize.ShloMosaic Idealize.ShloMosaic.TcCoe Idealize.SL.Sem
open Idealize.ShloMosaic.Pipeline (Dat)
open Cert.ProjIdeal Cert.ProjIdeal.Gen

theorem pay1_apply (x : FVec Ideal S512x2048 .f32) (n : FVec Ideal S1x2048 .f32) (r : Fin 512) (d : Fin 2048) :
    k0_pay1 (F := Ideal) x n (ix2 r d) = Norm.rms (fun l => x (ix2 r l)) (fun k => n (ix2 0 k)) d := by
  pointwise [k0_pay1, Norm.rms]

theorem pay2_apply (h : FVec Ideal S512x2048 .bf16) (w : FVec Ideal S2048x1024 .bf16) (r : Fin 512) (d : Fin 1024) :
    k0_pay2 (F := Ideal) h w (ix2 r d) = ∑ k : Fin 2048, h (ix2 r k) * w (ix2 k d) := by
  pointwise [k0_pay2]

theorem idx : ∀ t : Fin cfg0.N,
    win0_0.index t = ![t.val / 3, 0] ∧ win0_1.index t = ![0, 0] ∧ win0_2.index t = ![0, t.val % 3] ∧ win0_3.index t = ![t.val / 3, t.val % 3] :=
  (by decide +kernel : ∀ t : Fin grid0.N, _)

/-- The normed rows times the weight's first 3072 columns, at row `a`, column `d`. -/
def proj (x : FVec Ideal S4x8192x2048 .f32) (n : FVec Ideal S1x2048 .f32) (w : FVec Ideal S1x2048x6432 .f32) (a : Fin 32768) (d : Fin 3072) : EReal :=
  ∑ k : Fin 2048, Norm.rms (fun l => x (ix3 ⟨a.val / 8192, by omega⟩ ⟨a.val % 8192, by omega⟩ l)) (fun l => n (ix2 0 l)) k * w (ix3 0 k ⟨d.val, by omega⟩)

/-- The projections. -/
def res (x : FVec Ideal S4x8192x2048 .f32) (n : FVec Ideal S1x2048 .f32) (w : FVec Ideal S1x2048x6432 .f32) : FVec Ideal S32768x3072 .bf16 :=
  fun y => proj x n w (y 0) (y 1)

/-- The tokens' rows, as the host lays them out for the kernel. -/
def rows (x : FVec Ideal S4x8192x2048 .f32) : FVec Ideal S32768x2048 .f32 := shapeCast S32768x2048 x shapeCasts_S4x8192x2048_S32768x2048
/-- The weight's first 3072 columns. -/
def cols (w : FVec Ideal S1x2048x6432 .f32) : FVec Ideal S2048x3072 .bf16 :=
  truncf .bf16 (extractStridedSlice S2048x3072 ![0, 0] (shapeCast S2048x6432 w shapeCasts_S1x2048x6432_S2048x6432) slices_S2048x6432_S2048x3072_0_0 : FVec Ideal S2048x3072 .f32) bitsLt_bf16_f32

theorem rows_apply (x : FVec Ideal S4x8192x2048 .f32) (a : Fin 32768) (l : Fin 2048) :
    rows x (ix2 a l) = x (ix3 ⟨a.val / 8192, by omega⟩ ⟨a.val % 8192, by omega⟩ l) := by
  refine shapeCast_apply _ _ _ _ ?_
  rw [Shape.rowMajor_val_three, Shape.rowMajor_val_two]
  show ((a.val / 8192) * 8192 + a.val % 8192) * 2048 + l.val = a.val * 2048 + l.val
  omega

theorem cols_apply (w : FVec Ideal S1x2048x6432 .f32) (k : Fin 2048) (d : Fin 3072) :
    cols w (ix2 k d) = w (ix3 0 k ⟨d.val, by omega⟩) := by
  pointwise [cols]

variable (m : (ℓ : Loc nD τ sig) → Buf (Elt Ideal) ℓ) (c : Dev nD)

theorem V_main_v3 (a : Fin 32768) (l : Fin 2048) : (V m c main_v3 : FVec Ideal S32768x2048 .f32) (ix2 a l)
    = (m ((c : Thread nD τ).loc main_arg0) : FVec Ideal S4x8192x2048 .f32) (ix3 ⟨a.val / 8192, by omega⟩ ⟨a.val % 8192, by omega⟩ l) := by
  have e : (V m c main_v3 : FVec Ideal S32768x2048 .f32) = rows (m ((c : Thread nD τ).loc main_arg0)) := by
    show StableHlo.after hostOps0 _ (Proc.devRef .tc main_v3) = _
    after_results
    rfl
  rw [e, rows_apply]

theorem V_main_v2 (k : Fin 2048) (d : Fin 3072) : (V m c main_v2 : FVec Ideal S2048x3072 .bf16) (ix2 k d)
    = (m ((c : Thread nD τ).loc main_arg2) : FVec Ideal S1x2048x6432 .f32) (ix3 0 k ⟨d.val, by omega⟩) := by
  have e : (V m c main_v2 : FVec Ideal S2048x3072 .bf16) = cols (m ((c : Thread nD τ).loc main_arg2)) := by
    show StableHlo.after hostOps0 _ (Proc.devRef .tc main_v2) = _
    after_results
    rfl
  rw [e, cols_apply]

theorem V_main_v5 (l : Fin 2048) : (V m c main_v5 : FVec Ideal S1x2048 .f32) (ix2 0 l)
    = (m ((c : Thread nD τ).loc main_arg1) : FVec Ideal S1x2048 .f32) (ix2 0 l) := by
  have e : V m c main_v5 = shapeCast S1x2048 (shapeCast S2048 (m ((c : Thread nD τ).loc main_arg1) : FVec Ideal S1x2048 .f32) shapeCasts_S1x2048_S2048) shapeCasts_S2048_S1x2048 := by
    show StableHlo.after hostOps0 _ (Proc.devRef .tc main_v5) = _
    after_results
    rfl
  rw [e]
  pointwise []

theorem lt_N (t : Fin cfg0.N) : t.val < 192 := lt_of_lt_of_eq t.isLt (show cfg0.N = 192 from N_0)

theorem blk0 (t : Fin cfg0.N) (r : Fin 512) (l : Fin 2048) :
    (iblk m c 0 t : FVec Ideal S512x2048 .f32) (ix2 r l)
      = (m ((c : Thread nD τ).loc main_arg0) : FVec Ideal S4x8192x2048 .f32)
        (ix3 ⟨(512 * (t.val / 3) + r.val) / 8192, by have := lt_N t; omega⟩ ⟨(512 * (t.val / 3) + r.val) % 8192, by omega⟩ l) := by
  have ht := lt_N t
  refine Eq.trans ?_ (V_main_v3 m c ⟨512 * (t.val / 3) + r.val, by omega⟩ l)
  blk_simp [iblk]
  congr 1
  blk_ext [(idx t).1]

theorem blk1 (t : Fin cfg0.N) (l : Fin 2048) :
    (iblk m c 1 t : FVec Ideal S1x2048 .f32) (ix2 0 l) = (m ((c : Thread nD τ).loc main_arg1) : FVec Ideal S1x2048 .f32) (ix2 0 l) := by
  rw [← V_main_v5 m c]
  blk_simp [iblk]
  congr 1
  blk_ext [(idx t).2.1]

theorem blk2 (t : Fin cfg0.N) (k : Fin 2048) (d : Fin 1024) :
    (iblk m c 2 t : FVec Ideal S2048x1024 .bf16) (ix2 k d)
      = (m ((c : Thread nD τ).loc main_arg2) : FVec Ideal S1x2048x6432 .f32) (ix3 0 k ⟨1024 * (t.val % 3) + d.val, by omega⟩) := by
  refine Eq.trans ?_ (V_main_v2 m c k ⟨1024 * (t.val % 3) + d.val, by omega⟩)
  blk_simp [iblk]
  congr 1
  blk_ext [(idx t).2.2.1]

/-- The normed rows at a point. -/
def hid (t : Fin cfg0.N) : FVec Ideal S512x2048 .bf16 := k0_pay1 (F := Ideal) (iblk m c 0 t) (iblk m c 1 t)

theorem hid_apply (t : Fin cfg0.N) (r : Fin 512) (d : Fin 2048) :
    hid m c t (ix2 r d) = Norm.rms (fun l => (m ((c : Thread nD τ).loc main_arg0) : FVec Ideal S4x8192x2048 .f32)
        (ix3 ⟨(512 * (t.val / 3) + r.val) / 8192, by have := lt_N t; omega⟩ ⟨(512 * (t.val / 3) + r.val) % 8192, by omega⟩ l))
      (fun l => (m ((c : Thread nD τ).loc main_arg1) : FVec Ideal S1x2048 .f32) (ix2 0 l)) d := by
  refine (pay1_apply _ _ r d).trans ?_
  simp only [blk0 m c, blk1 m c]

/-- The rows of two points of one row block are the same. -/
theorem hid_eq (t t' : Fin cfg0.N) (h : t.val / 3 = t'.val / 3) : hid m c t = hid m c t' := by
  funext y
  have hy : ∃ (r : Fin 512) (d : Fin 2048), y = ix2 r d := ⟨y 0, y 1, by funext a; match a with | ⟨0, _⟩ => rfl | ⟨1, _⟩ => rfl⟩
  obtain ⟨r, d, rfl⟩ := hy
  rw [hid_apply, hid_apply]
  simp only [h]

theorem outs_eq (n : ℕ) (hn : n < cfg0.N) :
    outsAt0 (F := Ideal) m c n hn = (k0_pay2 (F := Ideal) (hid m c ⟨n, hn⟩) (iblk m c 2 ⟨n, hn⟩), hid m c ⟨n, hn⟩) := by
  induction n using Nat.strong_induction_on with
  | _ n ih =>
    by_cases h0 : n % 3 = 0
    · refine (outsAt0_A m c ⟨n, hn⟩ h0).trans ?_
      rw [outA_eq, soutA_eq]
      rfl
    · refine (outsAt0_B m c ⟨n, hn⟩ h0).trans ?_
      rw [outB_eq, soutB_eq]
      have e := ih (n - 1) (by omega) (Nat.lt_of_le_of_lt (Nat.sub_le _ _) hn)
      have e' : hid m c ⟨n - 1, Nat.lt_of_le_of_lt (Nat.sub_le _ _) hn⟩ = hid m c ⟨n, hn⟩ := hid_eq m c _ _ (by show (n - 1) / 3 = n / 3; omega)
      have e2 : (outsAt0 (F := Ideal) m c (n - 1) (Nat.lt_of_le_of_lt (Nat.sub_le _ _) hn)).2 = hid m c ⟨n, hn⟩ := by rw [e]; exact e'
      exact Prod.ext (congrArg (fun z => k0_pay2 (F := Ideal) z (iblk m c 2 ⟨n, hn⟩)) e2) e2

/-- The result array. -/
theorem arr_eq : (dats m 0 c).arrAt 3 cfg0.N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outs_eq]
  have hy : ∃ (r : Fin 512) (d : Fin 1024), y = ix2 r d := ⟨y 0, y 1, by funext a; match a with | ⟨0, _⟩ => rfl | ⟨1, _⟩ => rfl⟩
  obtain ⟨r, d, rfl⟩ := hy
  have ht := lt_N t
  refine (pay2_apply _ _ r d).trans ?_
  simp only [hid_apply m c, blk2 m c]
  have e : (win0_3.blk t).view.emb (ix2 r d) = ix2 ⟨512 * (t.val / 3) + r.val, by omega⟩ ⟨1024 * (t.val % 3) + d.val, by omega⟩ := by
    blk_ext [(idx t).2.2.2]
  rw [e]
  rfl

end Cert.ProjIdeal.Calc

end
-- ==== Proof.ProjRefVal.lean ====
module

public import proofs.«01_k».proof.Proof.Gen.ProjRefIdeal.Read
public import proofs.«01_k».proof.Proof.Norm

@[expose] public section

noncomputable section

namespace Cert.ProjRefIdeal.Calc

open Idealize.ShloMosaic Idealize.ShloMosaic.TcCoe
open Cert.ProjRefIdeal Cert.ProjRefIdeal.Gen Cert.ProjRefIdeal.Read

variable (x0 : FVec Ideal S4x8192x2048 .f32) (x1 : FVec Ideal S1x2048 .f32) (x2 : FVec Ideal S1x2048x6432 .f32)

theorem v13_eq (i : S4x8192x2048.Idx) : val_main_v13 (F := Ideal) x0 x1 i
    = Norm.rms (fun l => x0 (ValueIdx.ix3 (i 0) (i 1) l)) (fun k => x1 (ValueIdx.ix2 0 k)) (i 2) := by
  have ez : val_main_cst (F := Ideal) (Shape.Idx.first h_S_) = 0 := Cert.KernelIdeal.Attn.bits_zero
  have ew : idx_main_v0 (idx_main_v11 (idx_main_v12 i)) = ValueIdx.ix2 0 (i 2) := funext fun b => Fin.ext (by
    have h1 : (i 2).val < 2048 := (i 2).isLt
    match b with
    | ⟨0, _⟩ => rfl
    | ⟨1, _⟩ => show (i 2).val % 2048 = (i 2).val; omega)
  have ei : i = ValueIdx.ix3 (i 0) (i 1) (i 2) := funext fun a => by match a with | ⟨0, _⟩ => rfl | ⟨1, _⟩ => rfl | ⟨2, _⟩ => rfl
  have e0 : x0 i = x0 (ValueIdx.ix3 (i 0) (i 1) (i 2)) := congrArg _ ei
  have e2 : ∀ k : Fin 2048, idx_main_v2 (idx_main_v3 (idx_main_v9 i)) k = ValueIdx.ix3 (i 0) (i 1) k := fun k => funext fun b => by
    match b with
    | ⟨0, _⟩ => rfl
    | ⟨1, _⟩ => rfl
    | ⟨2, _⟩ => rfl
  rw [val_main_v13_apply, val_main_v12_apply, val_main_v11_apply, val_main_v0_apply, ew, val_main_v10_apply, val_main_v9_apply, val_main_v8_apply, val_main_v7_apply,
    val_main_v6_apply, val_main_cst_1_apply, val_main_v5_apply, val_main_v4_apply, val_main_cst_0_apply, val_main_v3_apply, val_main_v2_apply, ez, zero_add, e0]
  simp only [val_main_v1_apply, e2]
  rfl

theorem v14_eq (k : Fin 2048) (d : Fin 6432) : val_main_v14 (F := Ideal) x2 (ValueIdx.ix2 k d) = x2 (ValueIdx.ix3 0 k d) := by
  rw [val_main_v14_apply]
  refine congrArg x2 (funext fun b => Fin.ext ?_)
  match b with
  | ⟨0, _⟩ => rfl
  | ⟨1, _⟩ => show (k.val * 6432 + d.val) / 6432 % 2048 = k.val; omega
  | ⟨2, _⟩ => show (k.val * 6432 + d.val) % 6432 = d.val; omega

theorem v18_eq (a : Fin 32768) (d : Fin 3072) : val_main_v18 (F := Ideal) x0 x1 x2 (ValueIdx.ix2 a d)
    = ∑ k : Fin 2048, Norm.rms (fun l => x0 (ValueIdx.ix3 ⟨a.val / 8192, by omega⟩ ⟨a.val % 8192, by omega⟩ l)) (fun l => x1 (ValueIdx.ix2 0 l)) k
        * x2 (ValueIdx.ix3 0 k ⟨d.val, by omega⟩) := by
  rw [val_main_v18_apply, val_main_v17_apply, val_main_v16_apply, val_main_v15_apply]
  have e : idx_main_v16 (idx_main_v17 (ValueIdx.ix2 a d)) = ValueIdx.ix3 ⟨a.val / 8192, by omega⟩ ⟨a.val % 8192, by omega⟩ ⟨d.val, by omega⟩ := funext fun b => Fin.ext (by
    match b with
    | ⟨0, _⟩ => show (a.val * 3072 + d.val) / 25165824 = a.val / 8192; omega
    | ⟨1, _⟩ => show (a.val * 3072 + d.val) / 3072 % 8192 = a.val % 8192; omega
    | ⟨2, _⟩ => show (a.val * 3072 + d.val) % 3072 = d.val; omega)
  rw [e]
  refine Finset.sum_congr rfl fun k _ => ?_
  rw [v13_eq]
  have er : ridx_main_v15 (ValueIdx.ix3 (⟨a.val / 8192, by omega⟩ : Fin 4) (⟨a.val % 8192, by omega⟩ : Fin 8192) (⟨d.val, by omega⟩ : Fin 6432)) k = ValueIdx.ix2 k ⟨d.val, by omega⟩ := funext fun b => by
    match b with
    | ⟨0, _⟩ => rfl
    | ⟨1, _⟩ => rfl
  exact congrArg₂ (· * ·) rfl ((congrArg _ er).trans (v14_eq x2 k ⟨d.val, by omega⟩))

end Cert.ProjRefIdeal.Calc

end
-- ==== Proof.OutVal.lean ====
module

public import proofs.«01_k».proof.Proof.Gen.OutProjIdeal.Value
public import proofs.«01_k».proof.Proof.Norm
public import Idealize.ShloMosaic.Lib.Pipeline.ValueKit

@[expose] public section

set_option maxRecDepth 16384

noncomputable section

namespace Cert.OutProjIdeal.Calc

open Idealize.ShloMosaic Idealize.ShloMosaic.TcCoe Idealize.SL.Sem
open Idealize.ShloMosaic.Pipeline (Dat)
open Cert.OutProjIdeal Cert.OutProjIdeal.Gen

section
variable (x : FVec Ideal S512x2048 .f32) (oa or : FVec Ideal S512x1024 .bf16) (wa wr : FVec Ideal S1024x2048 .bf16) (w : FVec Ideal S1x2048 .f32)

theorem pay1_apply (r : Fin 512) (d : Fin 2048) :
    k0_pay1 (F := Ideal) x oa wa or wr (ix2 r d)
      = x (ix2 r d) + (∑ k : Fin 1024, oa (ix2 r k) * wa (ix2 k d)) + ∑ k : Fin 1024, or (ix2 r k) * wr (ix2 k d) := by
  pointwise [k0_pay1]

theorem pay2_apply (r : Fin 512) (d : Fin 2048) :
    k0_pay2 (F := Ideal) x oa wa or wr w (ix2 r d)
      = Norm.rms (fun l => k0_pay1 (F := Ideal) x oa wa or wr (ix2 r l)) (fun k => w (ix2 0 k)) d := by
  pointwise [k0_pay2, Norm.rms]

theorem out6_eq : out0_6 (F := Ideal) x oa or wa wr w = k0_pay1 (F := Ideal) x oa wa or wr := by
  unfold out0_6
  rw [View.canon_unit_zero (by decide)]
  simp only [View.ld_unit_zero (S := S512x2048) (off := ![0, 0]) (by decide), View.ld_unit_zero (S := S512x1024) (off := ![0, 0]) (by decide), View.ld_unit_zero (S := S1024x2048) (off := ![0, 0]) (by decide)]

theorem out7_eq : out0_7 (F := Ideal) x oa or wa wr w = k0_pay2 (F := Ideal) x oa wa or wr w := by
  unfold out0_7
  rw [View.canon_unit_zero (by decide)]
  simp only [View.ld_unit_zero (S := S512x2048) (off := ![0, 0]) (by decide), View.ld_unit_zero (S := S512x1024) (off := ![0, 0]) (by decide), View.ld_unit_zero (S := S1024x2048) (off := ![0, 0]) (by decide), View.ld_unit_zero (S := S1x2048) (off := ![0, 0]) (by decide)]
end

theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

/-- The residual plus the two groups' products, at row `a`, column `d`. -/
def resid (x : FVec Ideal S4x8192x2048 .f32) (oa or : FVec Ideal S32768x1024 .bf16) (w : FVec Ideal S1x2048x2048 .f32) (a : Fin 32768) (d : Fin 2048) : EReal :=
  x (ix3 ⟨a.val / 8192, by omega⟩ ⟨a.val % 8192, by omega⟩ d)
    + ((∑ k : Fin 1024, oa (ix2 a k) * w (ix3 0 ⟨k.val, by omega⟩ d)) + ∑ k : Fin 1024, or (ix2 a k) * w (ix3 0 ⟨1024 + k.val, by omega⟩ d))

/-- The residual stream after the mixer. -/
def res1 (x : FVec Ideal S4x8192x2048 .f32) (oa or : FVec Ideal S32768x1024 .bf16) (w : FVec Ideal S1x2048x2048 .f32) : FVec Ideal S32768x2048 .f32 :=
  fun y => resid x oa or w (y 0) (y 1)

/-- Its norm. -/
def res2 (x : FVec Ideal S4x8192x2048 .f32) (oa or : FVec Ideal S32768x1024 .bf16) (w : FVec Ideal S1x2048x2048 .f32) (n : FVec Ideal S1x2048 .f32) : FVec Ideal S32768x2048 .bf16 :=
  fun y => Norm.rms (resid x oa or w (y 0)) (fun k => n (ix2 0 k)) (y 1)

/-- The tokens' rows, as the host lays them out for the kernel. -/
def rows (x : FVec Ideal S4x8192x2048 .f32) : FVec Ideal S32768x2048 .f32 := shapeCast S32768x2048 x shapeCasts_S4x8192x2048_S32768x2048
/-- The weight's first 1024 rows. -/
def upper (w : FVec Ideal S1x2048x2048 .f32) : FVec Ideal S1024x2048 .bf16 :=
  truncf .bf16 (extractStridedSlice S1024x2048 ![0, 0] (shapeCast S2048x2048 w shapeCasts_S1x2048x2048_S2048x2048) slices_S2048x2048_S1024x2048_0_0 : FVec Ideal S1024x2048 .f32) bitsLt_bf16_f32
/-- The weight's last 1024 rows. -/
def lower (w : FVec Ideal S1x2048x2048 .f32) : FVec Ideal S1024x2048 .bf16 :=
  truncf .bf16 (extractStridedSlice S1024x2048 ![1024, 0] (shapeCast S2048x2048 w shapeCasts_S1x2048x2048_S2048x2048) slices_S2048x2048_S1024x2048_1024_0 : FVec Ideal S1024x2048 .f32) bitsLt_bf16_f32

theorem rows_apply (x : FVec Ideal S4x8192x2048 .f32) (a : Fin 32768) (l : Fin 2048) :
    rows x (ix2 a l) = x (ix3 ⟨a.val / 8192, by omega⟩ ⟨a.val % 8192, by omega⟩ l) := by
  refine shapeCast_apply _ _ _ _ ?_
  rw [Shape.rowMajor_val_three, Shape.rowMajor_val_two]
  show ((a.val / 8192) * 8192 + a.val % 8192) * 2048 + l.val = a.val * 2048 + l.val
  omega

theorem upper_apply (w : FVec Ideal S1x2048x2048 .f32) (a : Fin 1024) (l : Fin 2048) :
    upper w (ix2 a l) = w (ix3 0 ⟨a.val, by omega⟩ l) := by
  pointwise [upper]

theorem lower_apply (w : FVec Ideal S1x2048x2048 .f32) (a : Fin 1024) (l : Fin 2048) :
    lower w (ix2 a l) = w (ix3 0 ⟨1024 + a.val, by omega⟩ l) := by
  pointwise [lower]

variable (m : (ℓ : Loc nD τ sig) → Buf (Elt Ideal) ℓ) (c : Dev nD)

theorem V_main_v0 (a : Fin 32768) (l : Fin 2048) : (V m c main_v0 : FVec Ideal S32768x2048 .f32) (ix2 a l)
    = (m ((c : Thread nD τ).loc main_arg0) : FVec Ideal S4x8192x2048 .f32) (ix3 ⟨a.val / 8192, by omega⟩ ⟨a.val % 8192, by omega⟩ l) := by
  have e : (V m c main_v0 : FVec Ideal S32768x2048 .f32) = rows (m ((c : Thread nD τ).loc main_arg0)) := by
    show StableHlo.after hostOps0 _ (Proc.devRef .tc main_v0) = _
    after_results
    rfl
  rw [e, rows_apply]

theorem V_main_v3 (a : Fin 1024) (l : Fin 2048) : (V m c main_v3 : FVec Ideal S1024x2048 .bf16) (ix2 a l)
    = (m ((c : Thread nD τ).loc main_arg3) : FVec Ideal S1x2048x2048 .f32) (ix3 0 ⟨a.val, by omega⟩ l) := by
  have e : (V m c main_v3 : FVec Ideal S1024x2048 .bf16) = upper (m ((c : Thread nD τ).loc main_arg3)) := by
    show StableHlo.after hostOps0 _ (Proc.devRef .tc main_v3) = _
    after_results
    rfl
  rw [e, upper_apply]

theorem V_main_v6 (a : Fin 1024) (l : Fin 2048) : (V m c main_v6 : FVec Ideal S1024x2048 .bf16) (ix2 a l)
    = (m ((c : Thread nD τ).loc main_arg3) : FVec Ideal S1x2048x2048 .f32) (ix3 0 ⟨1024 + a.val, by omega⟩ l) := by
  have e : (V m c main_v6 : FVec Ideal S1024x2048 .bf16) = lower (m ((c : Thread nD τ).loc main_arg3)) := by
    show StableHlo.after hostOps0 _ (Proc.devRef .tc main_v6) = _
    after_results
    rfl
  rw [e, lower_apply]

theorem V_main_v8 (l : Fin 2048) : (V m c main_v8 : FVec Ideal S1x2048 .f32) (ix2 0 l)
    = (m ((c : Thread nD τ).loc main_arg4) : FVec Ideal S1x2048 .f32) (ix2 0 l) := by
  have e : V m c main_v8 = shapeCast S1x2048 (shapeCast S2048 (m ((c : Thread nD τ).loc main_arg4) : FVec Ideal S1x2048 .f32) shapeCasts_S1x2048_S2048) shapeCasts_S2048_S1x2048 := by
    show StableHlo.after hostOps0 _ (Proc.devRef .tc main_v8) = _
    after_results
    rfl
  rw [e]
  pointwise []

theorem blk0 (t : Fin cfg0.N) (r : Fin 512) (l : Fin 2048) :
    (iblk m c 0 t : FVec Ideal S512x2048 .f32) (ix2 r l)
      = (m ((c : Thread nD τ).loc main_arg0) : FVec Ideal S4x8192x2048 .f32)
        (ix3 ⟨(512 * t.val + r.val) / 8192, by have : t.val < 64 := t.isLt; omega⟩ ⟨(512 * t.val + r.val) % 8192, by omega⟩ l) := by
  have ht : t.val < 64 := t.isLt
  refine Eq.trans ?_ (V_main_v0 m c ⟨512 * t.val + r.val, by omega⟩ l)
  blk_simp [iblk]
  congr 1
  blk_ext [(idx t).1]

theorem blk1 (t : Fin cfg0.N) (r : Fin 512) (l : Fin 1024) :
    (iblk m c 1 t : FVec Ideal S512x1024 .bf16) (ix2 r l)
      = (m ((c : Thread nD τ).loc main_arg1) : FVec Ideal S32768x1024 .bf16) (ix2 ⟨512 * t.val + r.val, by have : t.val < 64 := t.isLt; omega⟩ l) := by
  blk_simp [iblk, V_main_arg1]
  congr 1
  blk_ext [(idx t).2.1]

theorem blk2 (t : Fin cfg0.N) (r : Fin 512) (l : Fin 1024) :
    (iblk m c 2 t : FVec Ideal S512x1024 .bf16) (ix2 r l)
      = (m ((c : Thread nD τ).loc main_arg2) : FVec Ideal S32768x1024 .bf16) (ix2 ⟨512 * t.val + r.val, by have : t.val < 64 := t.isLt; omega⟩ l) := by
  blk_simp [iblk, V_main_arg2]
  congr 1
  blk_ext [(idx t).2.2.1]

theorem blk3 (t : Fin cfg0.N) (r : Fin 1024) (l : Fin 2048) :
    (iblk m c 3 t : FVec Ideal S1024x2048 .bf16) (ix2 r l)
      = (m ((c : Thread nD τ).loc main_arg3) : FVec Ideal S1x2048x2048 .f32) (ix3 0 ⟨r.val, by omega⟩ l) := by
  rw [← V_main_v3 m c]
  blk_simp [iblk]
  congr 1
  blk_ext [(idx t).2.2.2.1]

theorem blk4 (t : Fin cfg0.N) (r : Fin 1024) (l : Fin 2048) :
    (iblk m c 4 t : FVec Ideal S1024x2048 .bf16) (ix2 r l)
      = (m ((c : Thread nD τ).loc main_arg3) : FVec Ideal S1x2048x2048 .f32) (ix3 0 ⟨1024 + r.val, by omega⟩ l) := by
  rw [← V_main_v6 m c]
  blk_simp [iblk]
  congr 1
  blk_ext [(idx t).2.2.2.2.1]

theorem blk5 (t : Fin cfg0.N) (l : Fin 2048) :
    (iblk m c 5 t : FVec Ideal S1x2048 .f32) (ix2 0 l) = (m ((c : Thread nD τ).loc main_arg4) : FVec Ideal S1x2048 .f32) (ix2 0 l) := by
  rw [← V_main_v8 m c]
  blk_simp [iblk]
  congr 1
  blk_ext [(idx t).2.2.2.2.2.1]

theorem pay1_eq (t : Fin cfg0.N) (r : Fin 512) (d : Fin 2048) :
    k0_pay1 (F := Ideal) (iblk m c 0 t) (iblk m c 1 t) (iblk m c 3 t) (iblk m c 2 t) (iblk m c 4 t) (ix2 r d)
      = resid (m ((c : Thread nD τ).loc main_arg0)) (m ((c : Thread nD τ).loc main_arg1)) (m ((c : Thread nD τ).loc main_arg2)) (m ((c : Thread nD τ).loc main_arg3))
          ⟨512 * t.val + r.val, by have : t.val < 64 := t.isLt; omega⟩ d := by
  refine (pay1_apply _ _ _ _ _ r d).trans ?_
  simp only [blk0 m c, blk1 m c, blk2 m c, blk3 m c, blk4 m c]
  rw [add_assoc]
  rfl

/-- The first result array. -/
theorem arr6_eq : (dats m 0 c).arrAt 6 cfg0.N
    = res1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, out6_eq]
  have hy : ∃ (r : Fin 512) (d : Fin 2048), y = ix2 r d := ⟨y 0, y 1, by funext a; match a with | ⟨0, _⟩ => rfl | ⟨1, _⟩ => rfl⟩
  obtain ⟨r, d, rfl⟩ := hy
  have ht : t.val < 64 := t.isLt
  refine (pay1_eq m c t r d).trans ?_
  have e : (win0_6.blk t).view.emb (ix2 r d) = ix2 ⟨512 * t.val + r.val, by omega⟩ d := by
    blk_ext [(idx t).2.2.2.2.2.2.1]
  rw [e]
  rfl

/-- The second result array. -/
theorem arr7_eq : (dats m 0 c).arrAt 7 cfg0.N
    = res2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out7_eq]
  have hy : ∃ (r : Fin 512) (d : Fin 2048), y = ix2 r d := ⟨y 0, y 1, by funext a; match a with | ⟨0, _⟩ => rfl | ⟨1, _⟩ => rfl⟩
  obtain ⟨r, d, rfl⟩ := hy
  have ht : t.val < 64 := t.isLt
  refine (pay2_apply _ _ _ _ _ _ r d).trans ?_
  simp only [pay1_eq m c, blk5 m c]
  have e : (win0_7.blk t).view.emb (ix2 r d) = ix2 ⟨512 * t.val + r.val, by omega⟩ d := by
    blk_ext [(idx t).2.2.2.2.2.2.2]
  rw [e]
  rfl

end Cert.OutProjIdeal.Calc

end
-- ==== Proof.OutRefVal.lean ====
module

public import proofs.«01_k».proof.Proof.Gen.OutProjRefIdeal.Read
public import proofs.«01_k».proof.Proof.Norm

@[expose] public section

noncomputable section

namespace Cert.OutProjRefIdeal.Calc

open Idealize.ShloMosaic Idealize.ShloMosaic.TcCoe
open Cert.OutProjRefIdeal Cert.OutProjRefIdeal.Gen Cert.OutProjRefIdeal.Read

variable (x0 : FVec Ideal S4x8192x2048 .f32) (x1 x2 : FVec Ideal S32768x1024 .bf16) (x3 : FVec Ideal S1x2048x2048 .f32) (x4 : FVec Ideal S1x2048 .f32)

/-- The first group's columns of the concatenation. -/
theorem cat_lo (a : Fin 32768) (k : Fin 1024) : val_main_v2 (F := Ideal) x1 x2 (ValueIdx.ix2 a ⟨k.val, by omega⟩) = x1 (ValueIdx.ix2 a k) := by
  unfold val_main_v2
  refine (concatenate_pair_apply_left 1 _ _ concatenates_S32768x1024_S32768x1024_S32768x2048_d1 _ rfl (ValueIdx.ix2 a k) (fun b => ?_)).trans rfl
  match b with
  | ⟨0, _⟩ => rfl
  | ⟨1, _⟩ => rfl

/-- The second group's columns of the concatenation. -/
theorem cat_hi (a : Fin 32768) (k : Fin 1024) : val_main_v2 (F := Ideal) x1 x2 (ValueIdx.ix2 a ⟨1024 + k.val, by omega⟩) = x2 (ValueIdx.ix2 a k) := by
  unfold val_main_v2
  refine (concatenate_pair_apply_right 1 _ _ concatenates_S32768x1024_S32768x1024_S32768x2048_d1 _ rfl rfl (ValueIdx.ix2 a k) (fun b hb => ?_) ?_).trans rfl
  · match b with
    | ⟨0, _⟩ => rfl
    | ⟨1, _⟩ => exact absurd rfl hb
  · show k.val + 1024 = 1024 + k.val
    omega

theorem v6_eq (a : Fin 32768) (d : Fin 2048) : val_main_v6 (F := Ideal) x0 x1 x2 x3 (ValueIdx.ix2 a d)
    = x0 (ValueIdx.ix3 ⟨a.val / 8192, by omega⟩ ⟨a.val % 8192, by omega⟩ d)
      + ((∑ k : Fin 1024, x1 (ValueIdx.ix2 a k) * x3 (ValueIdx.ix3 0 ⟨k.val, by omega⟩ d))
        + ∑ k : Fin 1024, x2 (ValueIdx.ix2 a k) * x3 (ValueIdx.ix3 0 ⟨1024 + k.val, by omega⟩ d)) := by
  rw [val_main_v6_apply, val_main_v5_apply, val_main_v3_apply]
  have e3 : idx_main_v3 (ValueIdx.ix2 a d) = ValueIdx.ix3 ⟨a.val / 8192, by omega⟩ ⟨a.val % 8192, by omega⟩ d := funext fun b => Fin.ext (by
    match b with
    | ⟨0, _⟩ => show (a.val * 2048 + d.val) / 16777216 = a.val / 8192; omega
    | ⟨1, _⟩ => show (a.val * 2048 + d.val) / 2048 % 8192 = a.val % 8192; omega
    | ⟨2, _⟩ => show (a.val * 2048 + d.val) % 2048 = d.val; omega)
  have e4 : ∀ k : Fin 2048, val_main_v4 (F := Ideal) x3 (ridx_main_v5 (ValueIdx.ix2 a d) k) = x3 (ValueIdx.ix3 0 k d) := fun k => by
    rw [val_main_v4_apply]
    refine congrArg x3 (funext fun b => Fin.ext ?_)
    match b with
    | ⟨0, _⟩ => rfl
    | ⟨1, _⟩ => show (k.val * 2048 + d.val) / 2048 % 2048 = k.val; omega
    | ⟨2, _⟩ => show (k.val * 2048 + d.val) % 2048 = d.val; omega
  have e2 : ∀ k : Fin 2048, lidx_main_v5 (ValueIdx.ix2 a d) k = ValueIdx.ix2 a k := fun k => funext fun b => by
    match b with
    | ⟨0, _⟩ => rfl
    | ⟨1, _⟩ => rfl
  simp only [e2, e3, e4]
  refine congrArg _ ((Fin.sum_univ_add (a := 1024) (b := 1024) fun k : Fin (1024 + 1024) => val_main_v2 (F := Ideal) x1 x2 (ValueIdx.ix2 a k) * x3 (ValueIdx.ix3 0 k d)).trans ?_)
  exact congrArg₂ (· + ·) (Finset.sum_congr rfl fun k _ => congrArg (· * _) (cat_lo x1 x2 a k)) (Finset.sum_congr rfl fun k _ => congrArg (· * _) (cat_hi x1 x2 a k))

theorem v21_eq (i : S32768x2048.Idx) : val_main_v21 (F := Ideal) x0 x1 x2 x3 x4 i
    = Norm.rms (fun l => val_main_v6 (F := Ideal) x0 x1 x2 x3 (ValueIdx.ix2 (i 0) l)) (fun k => x4 (ValueIdx.ix2 0 k)) (i 1) := by
  have ez : val_main_cst (F := Ideal) (Shape.Idx.first h_S_) = 0 := Cert.KernelIdeal.Attn.bits_zero
  have ew : idx_main_v7 (idx_main_v18 (idx_main_v19 i)) = ValueIdx.ix2 0 (i 1) := funext fun b => Fin.ext (by
    have h1 : (i 1).val < 2048 := (i 1).isLt
    match b with
    | ⟨0, _⟩ => rfl
    | ⟨1, _⟩ => show (i 1).val % 2048 = (i 1).val; omega)
  have ei : i = ValueIdx.ix2 (i 0) (i 1) := funext fun a => by match a with | ⟨0, _⟩ => rfl | ⟨1, _⟩ => rfl
  have e6 : val_main_v6 (F := Ideal) x0 x1 x2 x3 i = val_main_v6 (F := Ideal) x0 x1 x2 x3 (ValueIdx.ix2 (i 0) (i 1)) := congrArg _ ei
  have e9 : ∀ k : Fin 2048, idx_main_v9 (idx_main_v10 (idx_main_v16 i)) k = ValueIdx.ix2 (i 0) k := fun k => funext fun b => by
    match b with
    | ⟨0, _⟩ => rfl
    | ⟨1, _⟩ => rfl
  rw [val_main_v21_apply, val_main_v20_apply, val_main_v19_apply, val_main_v18_apply, val_main_v7_apply, ew, val_main_v17_apply, val_main_v16_apply, val_main_v15_apply, val_main_v14_apply,
    val_main_v13_apply, val_main_cst_1_apply, val_main_v12_apply, val_main_v11_apply, val_main_cst_0_apply, val_main_v10_apply, val_main_v9_apply, ez, zero_add, e6]
  simp only [val_main_v8_apply, e9]
  rfl

end Cert.OutProjRefIdeal.Calc

end
-- ==== Proof.FinalVal.lean ====
module

public import proofs.«01_k».proof.Proof.Gen.FinalIdeal.Value
public import proofs.«01_k».proof.Proof.Norm
public import Idealize.ShloMosaic.Lib.Pipeline.ValueKit

@[expose] public section

set_option maxRecDepth 16384

noncomputable section

namespace Cert.FinalIdeal.Calc

open Idealize.ShloMosaic Idealize.ShloMosaic.TcCoe Idealize.SL.Sem
open Idealize.ShloMosaic.Pipeline (Dat)
open Cert.FinalIdeal Cert.FinalIdeal.Gen

theorem pay_apply (x : FVec Ideal S256x2048 .f32) (p : FVec Ideal S2048x256 .f32) (w : FVec Ideal S1x2048 .f32) (r : Fin 256) (d : Fin 2048) :
    k0_pay1 (F := Ideal) x p w (ix2 r d) = Norm.rms (fun k => x (ix2 r k) + p (ix2 k r)) (fun k => w (ix2 0 k)) d := by
  pointwise [k0_pay1, Norm.rms]

theorem out_eq (x : FVec Ideal S256x2048 .f32) (p : FVec Ideal S2048x256 .f32) (w : FVec Ideal S1x2048 .f32) :
    out0_3 (F := Ideal) x p w = k0_pay1 (F := Ideal) x p w := by
  unfold out0_3
  rw [View.canon_unit_zero (by decide)]
  simp only [View.ld_unit_zero (S := S256x2048) (off := ![0, 0]) (by decide), View.ld_unit_zero (S := S2048x256) (off := ![0, 0]) (by decide), View.ld_unit_zero (S := S1x2048) (off := ![0, 0]) (by decide)]

theorem idx : ∀ t : Fin cfg0.N,
    win0_0.index t = ![t.val, 0] ∧ win0_1.index t = ![0, t.val] ∧ win0_2.index t = ![0, 0] ∧ win0_3.index t = ![t.val, 0] :=
  (by decide +kernel : ∀ t : Fin grid0.N, _)

variable (m : (ℓ : Loc nD τ sig) → Buf (Elt Ideal) ℓ) (c : Dev nD)

/-- The weight as the kernel's row. -/
theorem V_main_v0 (l : Fin 2048) : (V m c main_v0 : FVec Ideal S1x2048 .f32) (ix2 0 l) = (m ((c : Thread nD τ).loc main_arg2) : FVec Ideal S2048 .f32) (ix1 l) := by
  have e : V m c main_v0 = shapeCast S1x2048 (m ((c : Thread nD τ).loc main_arg2) : FVec Ideal S2048 .f32) shapeCasts_S2048_S1x2048 := by
    show StableHlo.after hostOps0 _ (Proc.devRef .tc main_v0) = _
    after_results
    rfl
  rw [e]
  pointwise []

theorem blk0 (t : Fin cfg0.N) (r : Fin 256) (l : Fin 2048) :
    (iblk m c 0 t : FVec Ideal S256x2048 .f32) (ix2 r l)
      = (m ((c : Thread nD τ).loc main_arg0) : FVec Ideal S32768x2048 .f32) (ix2 ⟨256 * t.val + r.val, by have : t.val < 128 := t.isLt; omega⟩ l) := by
  blk_simp [iblk, V_main_arg0]
  congr 1
  blk_ext [(idx t).1]

theorem blk1 (t : Fin cfg0.N) (r : Fin 256) (l : Fin 2048) :
    (iblk m c 1 t : FVec Ideal S2048x256 .f32) (ix2 l r)
      = (m ((c : Thread nD τ).loc main_arg1) : FVec Ideal S2048x32768 .f32) (ix2 l ⟨256 * t.val + r.val, by have : t.val < 128 := t.isLt; omega⟩) := by
  blk_simp [iblk, V_main_arg1]
  congr 1
  blk_ext [(idx t).2.1]

theorem blk2 (t : Fin cfg0.N) (l : Fin 2048) :
    (iblk m c 2 t : FVec Ideal S1x2048 .f32) (ix2 0 l) = (m ((c : Thread nD τ).loc main_arg2) : FVec Ideal S2048 .f32) (ix1 l) := by
  rw [← V_main_v0 m c]
  blk_simp [iblk]
  congr 1
  blk_ext [(idx t).2.2.1]

/-- The last residual and the final norm, at every index. -/
def res (x : FVec Ideal S32768x2048 .f32) (p : FVec Ideal S2048x32768 .f32) (w : FVec Ideal S2048 .f32) : FVec Ideal S32768x2048 .f32 :=
  fun y => Norm.rms (fun k => x (ix2 (y 0) k) + p (ix2 k (y 0))) (fun k => w (ix1 k)) (y 1)

/-- The result array. -/
theorem arr_eq : (dats m 0 c).arrAt 3 cfg0.N
    = res (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  have hy : ∃ (r : Fin 256) (d : Fin 2048), y = ix2 r d := ⟨y 0, y 1, by funext a; match a with | ⟨0, _⟩ => rfl | ⟨1, _⟩ => rfl⟩
  obtain ⟨r, d, rfl⟩ := hy
  have ht : t.val < 128 := t.isLt
  refine (pay_apply _ _ _ r d).trans ?_
  simp only [blk0 m c, blk1 m c, blk2 m c]
  have e : (win0_3.blk t).view.emb (ix2 r d) = ix2 ⟨256 * t.val + r.val, by omega⟩ d := by
    blk_ext [(idx t).2.2.2]
  rw [e]
  rfl

end Cert.FinalIdeal.Calc

end
-- ==== Proof.FinalRefVal.lean ====
module

public import proofs.«01_k».proof.Proof.Gen.FinalRefIdeal.Read
public import proofs.«01_k».proof.Proof.Norm

@[expose] public section

noncomputable section

namespace Cert.FinalRefIdeal.Calc

open Idealize.ShloMosaic Idealize.ShloMosaic.TcCoe
open Cert.FinalRefIdeal Cert.FinalRefIdeal.Gen Cert.FinalRefIdeal.Read

theorem v14_eq (x0 : FVec Ideal S32768x2048 .f32) (x1 : FVec Ideal S2048x32768 .f32) (x2 : FVec Ideal S2048 .f32) (i : S32768x2048.Idx) :
    val_main_v14 (F := Ideal) x0 x1 x2 i
      = Norm.rms (fun k => x0 (ValueIdx.ix2 (i 0) k) + x1 (ValueIdx.ix2 k (i 0))) (fun k => x2 (ValueIdx.ix1 k)) (i 1) := by
  have ez : val_main_cst (F := Ideal) (Shape.Idx.first h_S_) = 0 := Cert.KernelIdeal.Attn.bits_zero
  have e1 : ∀ j : S32768x2048.Idx, val_main_v1 (F := Ideal) x0 x1 j = x0 (ValueIdx.ix2 (j 0) (j 1)) + x1 (ValueIdx.ix2 (j 1) (j 0)) := fun j => by
    rw [val_main_v1_apply, val_main_v0_apply]
    have hj : j = ValueIdx.ix2 (j 0) (j 1) := funext fun a => by match a with | ⟨0, _⟩ => rfl | ⟨1, _⟩ => rfl
    have hk : idx_main_v0 j = ValueIdx.ix2 (j 1) (j 0) := funext fun a => by match a with | ⟨0, _⟩ => rfl | ⟨1, _⟩ => rfl
    rw [hk]
    exact congrArg (fun z => x0 z + x1 (ValueIdx.ix2 (j 1) (j 0))) hj
  have ew : idx_main_v12 (idx_main_v13 i) = ValueIdx.ix1 (i 1) := funext fun a => by match a with | ⟨0, _⟩ => rfl
  rw [val_main_v14_apply, val_main_v13_apply, val_main_v12_apply, ew, val_main_v11_apply, val_main_v10_apply, val_main_v9_apply, val_main_v8_apply,
    val_main_v7_apply, val_main_cst_1_apply, val_main_v6_apply, val_main_v5_apply, val_main_cst_0_apply, val_main_v4_apply, val_main_v3_apply, ez, zero_add]
  simp only [val_main_v2_apply, e1]
  rfl

end Cert.FinalRefIdeal.Calc

end
-- ==== Proof.Calls.lean ====
module

public import proofs.«01_k».proof.Defs
public import proofs.«01_k».proof.Proof.Gen.Proj.Frame
public import proofs.«01_k».proof.Proof.Gen.OutProj.Frame
public import proofs.«01_k».proof.Proof.Gen.Final.Frame
public import proofs.«01_k».proof.Proof.ProjVal
public import proofs.«01_k».proof.Proof.ProjRefVal
public import proofs.«01_k».proof.Proof.OutVal
public import proofs.«01_k».proof.Proof.OutRefVal
public import proofs.«01_k».proof.Proof.FinalVal
public import proofs.«01_k».proof.Proof.FinalRefVal
public import Idealize.ShloMosaic.Adequacy
public import Idealize.ShloMosaic.Init

@[expose] public section

set_option maxRecDepth 16384

noncomputable section

open Idealize.ShloMosaic Idealize.ShloMosaic.TcCoe Idealize.SL.Sem

namespace ProjClaims

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

theorem preserves : Cert.preserves_Proj_ProjIdeal := trivial

/-- The input projection equals the reference's. -/
theorem algebraic : Cert.algebraic_ProjIdeal_ProjRefIdeal := by
  intro m g m' g' hpre hm
  refine ⟨fun c => (Cert.ProjIdeal.Gen.dats m 0 c).arrAt 3 Cert.ProjIdeal.cfg0.N, Cert.ProjIdeal.Value.run_blocks m g,
    (θ_run Cert.ProjRefIdeal.defs _ _).mono (fun r h c => ⟨(h c).1.trans ?_, (h c).2⟩) (Cert.ProjRefIdeal.Value.run (F := Ideal) m' g')⟩
  rw [Cert.ProjRefIdeal.Read.val_main_v18_eq, (hm c).1, (hm c).2.1, (hm c).2.2]
  refine Eq.trans ?_ (Cert.ProjIdeal.Calc.arr_eq m c).symm
  funext i
  have hi : i = ValueIdx.ix2 (i 0) (i 1) := funext fun a => by match a with | ⟨0, _⟩ => rfl | ⟨1, _⟩ => rfl
  exact (congrArg _ hi).trans (Cert.ProjRefIdeal.Calc.v18_eq _ _ _ (i 0) (i 1))

end ProjClaims

namespace OutClaims

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2.2, Idealize.ShloMosaic.sem_eq_zero_of_no_sems (by decide) r.2⟩)
    (Cert.OutProjRefIdeal.Value.run (F := Ideal) m ρ)

theorem preserves : Cert.preserves_OutProj_OutProjIdeal := trivial

/-- The residual after the mixer and its norm equal the reference's. -/
theorem algebraic : Cert.algebraic_OutProjIdeal_OutProjRefIdeal := by
  intro m g m' g' hpre hm
  refine ⟨fun c => (Cert.OutProjIdeal.Gen.dats m 0 c).arrAt 6 Cert.OutProjIdeal.cfg0.N, fun c => (Cert.OutProjIdeal.Gen.dats m 0 c).arrAt 7 Cert.OutProjIdeal.cfg0.N,
    Cert.OutProjIdeal.Value.run_blocks m g,
    (θ_run Cert.OutProjRefIdeal.defs _ _).mono (fun r h c => ⟨(h c).1.trans ?_, (h c).2.1.trans ?_, (h c).2.2⟩) (Cert.OutProjRefIdeal.Value.run (F := Ideal) m' g')⟩
  · rw [Cert.OutProjRefIdeal.Read.val_main_v6_eq, (hm c).1, (hm c).2.1, (hm c).2.2.1, (hm c).2.2.2.1]
    refine Eq.trans ?_ (Cert.OutProjIdeal.Calc.arr6_eq m c).symm
    funext i
    have hi : i = ValueIdx.ix2 (i 0) (i 1) := funext fun a => by match a with | ⟨0, _⟩ => rfl | ⟨1, _⟩ => rfl
    exact (congrArg _ hi).trans (Cert.OutProjRefIdeal.Calc.v6_eq _ _ _ _ (i 0) (i 1))
  · rw [Cert.OutProjRefIdeal.Read.val_main_v21_eq, (hm c).1, (hm c).2.1, (hm c).2.2.1, (hm c).2.2.2.1, (hm c).2.2.2.2]
    refine Eq.trans ?_ (Cert.OutProjIdeal.Calc.arr7_eq m c).symm
    funext i
    refine (Cert.OutProjRefIdeal.Calc.v21_eq _ _ _ _ _ i).trans ?_
    exact congrArg (fun v => Norm.rms v _ _) (funext fun l => Cert.OutProjRefIdeal.Calc.v6_eq _ _ _ _ (i 0) l)

end OutClaims

namespace FinalClaims

theorem frame_p : Cert.quiescent_Final := fun m ρ _ => Cert.Final.Gen.frame m ρ
theorem frame_pi : Cert.quiescent_FinalIdeal := fun m ρ _ => Cert.FinalIdeal.Gen.frame m ρ
theorem frame_ri : Cert.quiescent_FinalRefIdeal := fun m ρ _ =>
  (θ_run Cert.FinalRefIdeal.defs _ _).mono (fun r h => ⟨fun c => (h c).2, Idealize.ShloMosaic.sem_eq_zero_of_no_sems (by decide) r.2⟩)
    (Cert.FinalRefIdeal.Value.run (F := Ideal) m ρ)

theorem preserves : Cert.preserves_Final_FinalIdeal := trivial

/-- The final norm equals the reference's. -/
theorem algebraic : Cert.algebraic_FinalIdeal_FinalRefIdeal := by
  intro m g m' g' hpre hm
  refine ⟨fun c => (Cert.FinalIdeal.Gen.dats m 0 c).arrAt 3 Cert.FinalIdeal.cfg0.N, Cert.FinalIdeal.Value.run_blocks m g,
    (θ_run Cert.FinalRefIdeal.defs _ _).mono (fun r h c => ⟨(h c).1.trans ?_, (h c).2⟩) (Cert.FinalRefIdeal.Value.run (F := Ideal) m' g')⟩
  rw [Cert.FinalRefIdeal.Read.val_main_v14_eq, (hm c).1, (hm c).2.1, (hm c).2.2]
  refine Eq.trans ?_ (Cert.FinalIdeal.Calc.arr_eq m c).symm
  funext i
  exact Cert.FinalRefIdeal.Calc.v14_eq _ _ _ i

end FinalClaims

end
-- ==== Proof.ShiftBody.lean ====
module

public import proofs.«01_k».proof.Proof.Gen.ShiftIdeal.Frame
public import proofs.«01_k».proof.Proof.Gen.ShiftIdeal.Skeleton
public import Idealize.ShloMosaic.Lib.Pointwise
public import Idealize.ShloMosaic.Lib.VecWindow

@[expose] public section

set_option maxRecDepth 16384

noncomputable section

namespace Cert.ShiftIdeal.Carry

open Cert.ShiftIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch: the block's first column block. -/
abbrev cond1 (i : grid0.Coords) : Prop := (Scalar.cmpi .ne (Scalar.extui (Scalar.cmpi .eq (BitVec.ofNat 32 (i 1).val) 0#32)) 0#32) = 1#1

/-- The kept rows of column block `j`. -/
def slot (j : Fin 3) (s : Vec F S3x8x1152 .f32) : Vec F S1x8x1152 .f32 := fun x => s (ix3 j (x 1) (x 2))

/-- The normed rows after the point: new ones at a block's first column block, else as they were. -/
def rowsAt (i : grid0.Coords) (x0 : Vec F S512x2048 .f32) (x1 : Vec F S1x2048 .f32) (h : Vec F S512x2048 .bf16) : Vec F S512x2048 .bf16 :=
  if cond1 i then k0_pay3 x0 x1 else h

/-- The kept rows that the point reads: zeros at a sequence's start, else as they were. -/
def keptAt (i : grid0.Coords) (s : Vec F S1x8x1152 .f32) : Vec F S1x8x1152 .f32 :=
  if k0_cond2 i = 1#1 then k0_pay4 else s

/-- The block the point writes, from the normed rows, the weight's columns, the shift's weights and the kept rows. -/
def outAt (h : Vec F S512x2048 .bf16) (w : Vec F S2048x1152 .bf16) (mu : Vec F S1x1152 .f32) (k : Vec F S1x8x1152 .f32) : Vec F S512x1152 .bf16 :=
  k0_pay1 (k0_pay5 h w) (k0_pay6 h w k) (k0_pay7 mu)

theorem off2_eq (i : grid0.Coords) : k0_off2 i = ![(i 1).val, 0, 0] := by
  have h : (i 1).val < 3 := (i 1).isLt
  have e : (Scalar.indexCast (BitVec.ofNat 32 (i 1).val) : BitVec 32).toNat = (i 1).val := by
    generalize (i 1).val = n at h
    interval_cases n <;> decide
  unfold k0_off2
  exact congrArg (fun n => (![n, 0, 0] : Fin 3 → Nat)) e

theorem off1_eq (i : grid0.Coords) : k0_off1 i = ![(i 1).val, 0, 0] := off2_eq i

omit [FloatOps F] in
/-- A load of the point's slot reads the kept rows of its column block. -/
theorem ld_slot (i : grid0.Coords) (s : Vec F S3x8x1152 .f32) (inb) :
    View.ld (Val := Elt F) (e' := .f32) s (Rect.unit (s := S3x8x1152) (k0_off2 i) S1x8x1152.size inb) = slot (i 1) s := by
  funext x
  refine congrArg s (funext fun a => Fin.ext ?_)
  have e := congrFun (off2_eq i) a
  match a, e with
  | ⟨0, _⟩, e => have h0 : (x 0).val < 1 := (x 0).isLt
                 replace e : k0_off2 i 0 = (i 1).val := e
                 show k0_off2 i 0 + 1 * (x 0).val = (i 1).val; omega
  | ⟨1, _⟩, e => replace e : k0_off2 i 1 = 0 := e
                 show k0_off2 i 1 + 1 * (x 1).val = (x 1).val; omega
  | ⟨2, _⟩, e => replace e : k0_off2 i 2 = 0 := e
                 show k0_off2 i 2 + 1 * (x 2).val = (x 2).val; omega

section
variable {κ : Kind} {sp : Space} (v : View sig κ sp S3x8x1152 .f32) (f : v.ty.Contents (Elt F)) (i : grid0.Coords)

omit [FloatOps F] in
/-- A store into the point's slot leaves there what it stores, -/
theorem slot_store {off : Fin 3 → Nat} (e : off = ![(i 1).val, 0, 0]) (inb) (w : Vec F S1x8x1152 .f32) (L : List (View.Piece (Elt F) S3x8x1152 .f32)) :
    slot (i 1) (v.read (Elt F) (v.writes (Elt F) f (⟨Rect.unit (s := S3x8x1152) off S1x8x1152.size inb, w⟩ :: L))) = w := by
  funext x
  refine View.read_writes_cons_unit_of_mem v f inb w L _ x e fun a => ?_
  match a with
  | ⟨0, _⟩ => have h0 : (x 0).val < 1 := (x 0).isLt
              show (i 1).val = (i 1).val + (x 0).val; omega
  | ⟨1, _⟩ => show (x 1).val = 0 + (x 1).val; omega
  | ⟨2, _⟩ => show (x 2).val = 0 + (x 2).val; omega

omit [FloatOps F] in
/-- and the other slots as they were. -/
theorem slot_store_ne {off : Fin 3 → Nat} (e : off = ![(i 1).val, 0, 0]) (inb) (w : Vec F S1x8x1152 .f32) (L : List (View.Piece (Elt F) S3x8x1152 .f32))
    (j : Fin 3) (hj : j ≠ i 1) :
    slot j (v.read (Elt F) (v.writes (Elt F) f (⟨Rect.unit (s := S3x8x1152) off S1x8x1152.size inb, w⟩ :: L)))
      = slot j (v.read (Elt F) (v.writes (Elt F) f L)) := by
  funext x
  refine View.read_writes_cons_unit_of_not_mem v f inb w L _ e 0 ?_
  have hn : j.val ≠ (i 1).val := fun h => hj (Fin.ext h)
  show j.val < (i 1).val ∨ (i 1).val + 1 ≤ j.val
  omega
end

set_option maxHeartbeats 1000000 in
/-- What the body does at a point, on whole buffers: from the inputs' blocks, the normed rows `h` and the kept rows `s`, it
    leaves the inputs as they were, the result's block at `outAt`, the normed rows at `rowsAt`, its own slot of the kept rows
    at the product's last rows and the other slots as they were. -/
theorem body_run (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x1152 .bf16) (harg4 : arg4.IsWhole) (arg5 : Memref sig .tc .vmem S1x1152 .f32) (harg5 : arg5.IsWhole)
    (arg6 : Memref sig .tc .vmem S512x1152 .bf16) (harg6 : arg6.IsWhole) (arg7 : Memref sig .tc .vmem S512x2048 .bf16) (harg7 : arg7.IsWhole)
    (arg8 : Memref sig .tc .vmem S3x8x1152 .f32) (harg8 : arg8.IsWhole)
    (x0 : Vec F S512x2048 .f32) (x1 : Vec F S1x2048 .f32) (x2 : Vec F S2048x1152 .bf16) (x3 : Vec F S1x1152 .f32)
    (h : Vec F S512x2048 .bf16) (s : Vec F S3x8x1152 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ owns (c : Thread nD τ) arg7 fullShare h ∗ owns (c : Thread nD τ) arg8 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (outAt (rowsAt i x0 x1 h) x2 x3 (keptAt i (slot (i 1) s)))
            ∗ owns (c : Thread nD τ) arg7 fullShare (rowsAt i x0 x1 h)
            ∗ (∃ s', ⌜slot (i 1) s' = k0_pay2 (k0_pay5 (rowsAt i x0 x1 h) x2) ∧ ∀ j, j ≠ i 1 → slot j s' = slot j s⌝
                ∗ owns (c : Thread nD τ) arg8 fullShare s')) -∗ K ⟨⟩))
      ⊢ wp frame (wpE (defs₀ (F := F)) Variants.none c none) E (cc0_in_proj_shift i arg2 harg2 arg3 harg3 arg4 harg4 arg5 harg5 arg6 harg6 arg7 harg7 arg8 harg8) K := by
  simp only [cc0_in_proj_shift_eq_skeleton]; unfold cc0_in_proj_shift_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fh, %hfh, HH⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfh; obtain rfl := harg8.eq_unread hfs
  have l2 : View.readAt (Elt F) arg2.view (Rect.unit ![0, 0] S512x2048.size inb_S512x2048_S512x2048_0_0).toLoadRect (harg2.unread x0) = x0 :=
    (View.readAt_full _ _ _).trans (harg2.read_unread x0)
  have l3 : View.readAt (Elt F) arg3.view (Rect.unit ![0, 0] S1x2048.size inb_S1x2048_S1x2048_0_0).toLoadRect (harg3.unread x1) = x1 :=
    (View.readAt_full _ _ _).trans (harg3.read_unread x1)
  have l4 : View.readAt (Elt F) arg4.view (Rect.unit ![0, 0] S2048x1152.size inb_S2048x1152_S2048x1152_0_0).toLoadRect (harg4.unread x2) = x2 :=
    (View.readAt_full _ _ _).trans (harg4.read_unread x2)
  have l5 : View.readAt (Elt F) arg5.view (Rect.unit ![0, 0] S1x1152.size inb_S1x1152_S1x1152_0_0).toLoadRect (harg5.unread x3) = x3 :=
    (View.readAt_full _ _ _).trans (harg5.read_unread x3)
  have l7 : View.readAt (Elt F) arg7.view (Rect.unit ![0, 0] S512x2048.size inb_S512x2048_S512x2048_0_0).toLoadRect (harg7.unread h) = h :=
    (View.readAt_full _ _ _).trans (harg7.read_unread h)
  have e8 : (![BitVec.toNat (Scalar.indexCast (BitVec.ofNat 32 (i 1).val)), 0, 0] : Fin 3 → Nat) = ![(i 1).val, 0, 0] := off2_eq i
  have l8 : ∀ inb, View.readAt (Elt F) arg8.view (Rect.unit (s := S3x8x1152) ![BitVec.toNat (Scalar.indexCast (BitVec.ofNat 32 (i 1).val)), 0, 0] S1x8x1152.size inb).toLoadRect (harg8.unread s)
      = slot (i 1) s := fun inb =>
    (View.readAt_eq_ld _ _ _).trans ((congrArg (fun z => View.ld (Val := Elt F) (e' := .f32) z _) (harg8.read_unread s)).trans (ld_slot i s inb))
  by_cases hc1 : cond1 i <;> by_cases hc2 : k0_cond2 i = 1#1
  all_goals
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr
      swap; · iexact H4
      ipureintro
      sl_unfold_words
      rw [View.read_writes_full (s := S512x1152)]
      unfold rowsAt keptAt outAt
      first | rw [if_pos hc1] | rw [if_neg hc1]
      first | rw [if_pos hc2] | rw [if_neg hc2]
      try simp only [l2, l3, l4, l5, l7, l8, View.readCov_full, View.readCov_cons_toLoadRect]
    isplitl [HH]
    · iexists _; isplitr
      swap; · iexact HH
      ipureintro
      sl_unfold_words
      unfold rowsAt
      first | rw [if_pos hc1] | rw [if_neg hc1]
      first
        | rw [View.read_writes_full (s := S512x2048)]
        | rw [harg7.read_unread]
    iexists _; isplitr
    swap
    · iexists _; isplitr
      swap; · iexact HS
      ipureintro
      rfl
    ipureintro
    sl_unfold_words
    unfold rowsAt
    first | rw [if_pos hc1] | rw [if_neg hc1]
    simp only [l2, l3, l4, l5, l7, l8, View.readCov_full, View.readCov_cons_toLoadRect]
    refine ⟨slot_store (F := F) arg8.view _ i e8 _ _ _, fun j hj => ?_⟩
    first
      | exact (slot_store_ne (F := F) arg8.view _ i e8 _ _ _ j hj).trans ((slot_store_ne (F := F) arg8.view _ i e8 _ _ _ j hj).trans
          (congrArg (slot j) (harg8.read_unread s)))
      | exact (slot_store_ne (F := F) arg8.view _ i e8 _ _ _ j hj).trans (congrArg (slot j) (harg8.read_unread s))

end Cert.ShiftIdeal.Carry

end
-- ==== Proof.ShiftRun.lean ====
/-
  The launch of the token-shift projection, by values. The kernel keeps two buffers from one point to the next: the normed
  rows of the current block, and the last rows of each column block's product. Before point `n` the first is known inside a
  row block, and the second at the slots of the last three points; at the very first point nothing is known, and nothing is read.
-/
module

public import proofs.«01_k».proof.Proof.ShiftBody
public import Idealize.ShloMosaic.Lib.Claim

@[expose] public section

set_option maxRecDepth 16384

noncomputable section

namespace Cert.ShiftIdeal.Carry

open Cert.ShiftIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 192 := N_0

theorem coord0 (t : Fin cfg0.N) : (grid0.coords t 0).val = t.val / 3 := by
  have ht : t.val < 192 := Nat.lt_of_lt_of_eq t.isLt N_0
  have e : (grid0.coords t 0).val = t.val / 3 % 64 := Pipeline.Grid.coords_val t 0 (by decide) rfl
  omega

theorem coord1 (t : Fin cfg0.N) : (grid0.coords t 1).val = t.val % 3 := by
  have e : (grid0.coords t 1).val = t.val / 1 % 3 := Pipeline.Grid.coords_val t 1 (by decide) rfl
  omega

theorem cond1_iff (t : Fin cfg0.N) : cond1 (grid0.coords t) ↔ t.val % 3 = 0 := by
  have ht : t.val < 192 := Nat.lt_of_lt_of_eq t.isLt N_0
  simp only [cond1, coord1]
  word_cmp

/-- The sequence starts at the row blocks that are multiples of 16. -/
theorem cond2_iff (t : Fin cfg0.N) : k0_cond2 (grid0.coords t) = 1#1 ↔ t.val / 3 % 16 = 0 := by
  have e : ∀ i : grid0.Coords, k0_cond2 i = 1#1 ↔ (i 0).val % 16 = 0 := by decide +kernel
  rw [e, coord0]

/-! ## What the buffers hold -/

/-- The first point of `t`'s row block, -/
def start (t : Fin cfg0.N) : Fin cfg0.N := ⟨t.val / 3 * 3, by have := t.isLt; omega⟩

/-- and the same column block of the row block before. -/
def before (t : Fin cfg0.N) : Fin cfg0.N := ⟨t.val - 3, by have := t.isLt; omega⟩

/-- The normed rows of `t`'s row block. -/
def normed (c : Dev nD) (t : Fin cfg0.N) : Vec F S512x2048 .bf16 := k0_pay3 (iblk m c 0 (start t)) (iblk m c 1 (start t))

/-- The product's last rows at point `t`. -/
def lastRows (c : Dev nD) (t : Fin cfg0.N) : Vec F S1x8x1152 .f32 := k0_pay2 (k0_pay5 (normed m c t) (iblk m c 2 t))

/-- The block the kernel leaves at point `t`. -/
def block (c : Dev nD) (t : Fin cfg0.N) : Vec F S512x1152 .bf16 :=
  outAt (normed m c t) (iblk m c 2 t) (iblk m c 3 t) (keptAt (grid0.coords t) (lastRows m c (before t)))

/-- What is known of the kept buffers before point `n`. -/
def Known (c : Dev nD) (n : ℕ) (h : Vec F S512x2048 .bf16) (s : Vec F S3x8x1152 .f32) : Prop :=
  (∀ t : Fin cfg0.N, t.val = n → n % 3 ≠ 0 → h = normed m c t)
    ∧ ∀ (t : Fin cfg0.N) (j : Fin 3), t.val < n → n ≤ t.val + 3 → j.val = t.val % 3 → slot j s = lastRows m c t

theorem known_zero (c : Dev nD) (h : Vec F S512x2048 .bf16) (s : Vec F S3x8x1152 .f32) : Known m c 0 h s :=
  ⟨fun _ _ h0 => absurd rfl h0, fun _ _ h0 => absurd h0 (Nat.not_lt_zero _)⟩

/-- The normed rows after the body at `t`: those of `t`'s row block. -/
theorem rowsAt_known (c : Dev nD) (t : Fin cfg0.N) {h : Vec F S512x2048 .bf16} {s : Vec F S3x8x1152 .f32} (k : Known m c t.val h s) :
    rowsAt (grid0.coords t) (iblk m c 0 t) (iblk m c 1 t) h = normed m c t := by
  unfold rowsAt
  by_cases h0 : t.val % 3 = 0
  · rw [if_pos ((cond1_iff t).mpr h0)]
    have e : start t = t := Fin.ext (show t.val / 3 * 3 = t.val by omega)
    unfold normed; rw [e]
  · rw [if_neg (fun hc => h0 ((cond1_iff t).mp hc))]
    exact k.1 t rfl h0

/-- The kept rows read at `t`: the last rows of the row block before, or zeros. -/
theorem keptAt_known (c : Dev nD) (t : Fin cfg0.N) {h : Vec F S512x2048 .bf16} {s : Vec F S3x8x1152 .f32} (k : Known m c t.val h s) :
    keptAt (grid0.coords t) (slot (grid0.coords t 1) s) = keptAt (grid0.coords t) (lastRows m c (before t)) := by
  unfold keptAt
  by_cases h0 : t.val / 3 % 16 = 0
  · rw [if_pos ((cond2_iff t).mpr h0), if_pos ((cond2_iff t).mpr h0)]
  · rw [if_neg (fun hc => h0 ((cond2_iff t).mp hc)), if_neg (fun hc => h0 ((cond2_iff t).mp hc))]
    exact k.2 (before t) _ (show t.val - 3 < t.val by omega) (show t.val ≤ t.val - 3 + 3 by omega)
      ((coord1 t).trans (show t.val % 3 = (t.val - 3) % 3 by omega))

/-- What is known after the body at `t`. -/
theorem known_succ (c : Dev nD) (t : Fin cfg0.N) {h : Vec F S512x2048 .bf16} {s s' : Vec F S3x8x1152 .f32} (k : Known m c t.val h s)
    (hs : slot (grid0.coords t 1) s' = lastRows m c t ∧ ∀ j, j ≠ grid0.coords t 1 → slot j s' = slot j s) :
    Known m c (t.val + 1) (normed m c t) s' := by
  refine ⟨fun u hu h0 => ?_, fun u j hu hu3 hj => ?_⟩
  · have e : start u = start t := Fin.ext (show u.val / 3 * 3 = t.val / 3 * 3 by omega)
    unfold normed; rw [e]
  · by_cases hut : u.val = t.val
    · obtain rfl : u = t := Fin.ext hut
      obtain rfl : j = grid0.coords u 1 := Fin.ext (hj.trans (coord1 u).symm)
      exact hs.1
    · have hne : j ≠ grid0.coords t 1 := fun e => by
        have := (congrArg Fin.val e).trans (coord1 t)
        omega
      rw [hs.2 j hne]
      exact k.2 u j (by omega) (by omega) hj

/-! ## The proof data -/

abbrev sc0 : Memref sig .tc .vmem S512x2048 .bf16 := Memref.whole cc0_scratch0
abbrev sc1 : Memref sig .tc .vmem S3x8x1152 .f32 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `n`. -/
def Kept (c : Dev nD) (n : ℕ) : sProp 𝕄 :=
  iprop((∃ h s, ⌜Known m c n h s⌝ ∗ owns (c : Thread nD τ) sc0 fullShare h ∗ owns (c : Thread nD τ) sc1 fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ t := Kept m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = block m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = Kept m c (t.val + 1) from rfl, show (dats m 0 c).Φ t.castSucc = Kept m c t.val from rfl]
  unfold Kept
  iintro ⟨⟨⟨%h, %s, %hk, Hh, Hs⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) h s Set.univ _)
  isplitl [H0]; · iexact H0
  isplitl [H1]; · iexact H1
  isplitl [H2]; · iexact H2
  isplitl [H3]; · iexact H3
  isplitl [H4]; · iexists _; iexact H4
  isplitl [Hh]; · iexact Hh
  isplitl [Hs]; · iexact Hs
  rw [rowsAt_known m c t hk, keptAt_known m c t hk]
  iintro ⟨H0, H1, H2, H3, H4, Hh, ⟨%s', %hs, Hs⟩⟩
  isplitl [Hh Hs Hg]
  · isplitl [Hh Hs]
    · iexists _; iexists _; isplitr
      · ipureintro; exact known_succ m c t hk hs
      isplitl [Hh]; · iexact Hh
      iexact Hs
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Kept m c 0 from rfl, PhiA_eq]
  unfold Kept
  iintro ⟨⟨⟨%h, Hh⟩, ⟨%s, Hs⟩⟩, Hg⟩
  isplitl [Hh Hs]
  · iexists h; iexists s; isplitr
    · ipureintro; exact known_zero m c h s
    isplitl [Hh]; · iexact Hh
    iexact Hs
  iexact Hg

theorem hout (c : Dev nD) : (dats m 0 c).Φ (Fin.last cfg0.N) ⊢ Pipeline.ΦA spec0 c := by
  rw [show (dats m 0 c).Φ (Fin.last cfg0.N) = Kept m c cfg0.N from rfl, PhiA_eq]
  unfold Kept
  iintro ⟨⟨%h, %s, -, Hh, Hs⟩, Hg⟩
  isplitl [Hh Hs]
  · isplitl [Hh]
    · iexists _; iexact Hh
    iexists _; iexact Hs
  iexact Hg

/-! ## The run and the frame -/

set_option backward.isDefEq.respectTransparency.types false in
/-- The launch: every array ends at what the proof data gives it, and every semaphore counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.ShiftIdeal.Carry

end
-- ==== Proof.ShiftFrame.lean ====
module

public import proofs.«01_k».proof.Proof.ShiftRun
public import proofs.«01_k».proof.Proof.Gen.Shift.Frame
public import proofs.«01_k».proof.Proof.Gen.Shift.Skeleton

@[expose] public section

set_option maxRecDepth 16384

noncomputable section

namespace Cert.Shift.Carry

open Cert.Shift Cert.Shift.Gen
open Idealize.ShloMosaic Idealize.ShloMosaic.TcCoe
open Idealize.SL.Sem

variable {F : FTy → Type} [FloatOps F]

theorem defs₀_eq : Cert.Shift.defs₀ (F := F) = Cert.ShiftIdeal.defs₀ (F := F) := by
  unfold Cert.Shift.defs₀ Cert.ShiftIdeal.defs₀
  refine congrArg Defs.onTc (funext fun l => ?_)
  match l with
  | ⟨0, _⟩ => rfl
  | ⟨_ + 1, h⟩ => exact absurd h (Nat.not_lt.2 (Nat.le_add_left _ _))

theorem defs_eq : Cert.Shift.defs (F := F) = Cert.ShiftIdeal.defs (F := F) :=
  congrArg (Pipeline.defs Cert.ShiftIdeal.pcfgs) defs₀_eq

theorem main_eq : Cert.Shift.main (F := F) = Cert.ShiftIdeal.main (F := F) := rfl

/-- The compiled program is the ideal one's text, so its frame is the same statement. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have e := defs_eq (F := F)
  have h := Cert.ShiftIdeal.Carry.frame (F := F) m ρ
  rw [← e] at h
  exact h

end Cert.Shift.Carry
-- ==== Proof.ShiftVal.lean ====
/-
  The value of the token-shift projection: every row's product, moved towards the product of the row before it in its own
  sequence. A block's first row takes the last kept row of the block before; the columns past 3360 are padding, all zero.
-/
module

public import proofs.«01_k».proof.Proof.ShiftRun
public import proofs.«01_k».proof.Proof.Norm
public import Idealize.ShloMosaic.Lib.Pipeline.Value
public import Idealize.ShloMosaic.Lib.KernelVsHost
public import Idealize.ShloMosaic.Lib.WordCmp
public import Idealize.ShloMosaic.Lib.Pipeline.ValueKit.Geometry

@[expose] public section

set_option maxRecDepth 16384

noncomputable section

namespace Cert.ShiftIdeal.Calc

open Idealize.ShloMosaic Idealize.ShloMosaic.TcCoe Idealize.SL.Sem
open Idealize.ShloMosaic.Pipeline (Dat)
open Cert.ShiftIdeal Cert.ShiftIdeal.Gen Cert.ShiftIdeal.Carry

/-! ## The body's values -/

theorem normed_apply (x : FVec Ideal S512x2048 .f32) (n : FVec Ideal S1x2048 .f32) (r : Fin 512) (d : Fin 2048) :
    k0_pay3 (F := Ideal) x n (ix2 r d) = Norm.rms (fun l => x (ix2 r l)) (fun k => n (ix2 0 k)) d := by
  pointwise [k0_pay3, Norm.rms]

theorem prod_apply (h : FVec Ideal S512x2048 .bf16) (w : FVec Ideal S2048x1152 .bf16) (r : Fin 512) (d : Fin 1152) :
    k0_pay5 (F := Ideal) h w (ix2 r d) = ∑ k : Fin 2048, h (ix2 r k) * w (ix2 k d) := by
  pointwise [k0_pay5]

theorem last_apply (p : FVec Ideal S512x1152 .f32) (d : Fin 1152) : k0_pay2 (F := Ideal) p (ix3 0 7 d) = p (ix2 511 d) := by
  pointwise [k0_pay2]

theorem zero_apply (d : Fin 1152) : k0_pay4 (F := Ideal) (ix3 0 7 d) = 0 := by
  refine Eq.trans ?_ Cert.KernelIdeal.Attn.bits_zero
  pointwise [k0_pay4]

theorem weight_apply (mu : FVec Ideal S1x1152 .f32) (r : Fin 512) (d : Fin 1152) : k0_pay7 (F := Ideal) mu (ix2 r d) = mu (ix2 0 d) := by
  pointwise [k0_pay7]

/-- The row above: row 0 takes the last kept row. -/
theorem above_apply (h : FVec Ideal S512x2048 .bf16) (w : FVec Ideal S2048x1152 .bf16) (k : FVec Ideal S1x8x1152 .f32) (r : Fin 512) (d : Fin 1152) :
    k0_pay6 (F := Ideal) h w k (ix2 r d)
      = (if r.val = 0 then k (ix3 0 7 d) else k0_pay5 (F := Ideal) h w (ix2 ⟨r.val - 1, by omega⟩ d)) - k0_pay5 (F := Ideal) h w (ix2 r d) := by
  unfold k0_pay6
  generalize k0_pay5 (F := Ideal) h w = p
  have e : Scalar.select (IntOp.cmpi .eq (BitVec.ofNat 32 r.val) 0#32) (k (ix3 0 7 d)) (p (ix2 ⟨(r.val + 512 - 1) % 512, by omega⟩ d))
      = if r.val = 0 then k (ix3 0 7 d) else p (ix2 ⟨r.val - 1, by omega⟩ d) := by
    have hr : (⟨(r.val + 512 - 1) % 512, by omega⟩ : Fin 512) = if r.val = 0 then 511 else ⟨r.val - 1, by omega⟩ := by
      split
      · exact Fin.ext (by show (r.val + 512 - 1) % 512 = 511; omega)
      · exact Fin.ext (by show (r.val + 512 - 1) % 512 = r.val - 1; omega)
    rw [Scalar.select, hr]
    have hc : IntOp.cmpi .eq (BitVec.ofNat 32 r.val) 0#32 = 1 ↔ r.val = 0 :=
      WordCmp.cmpi_eq_ofNat_eq_one_iff (a := r.val) (b := 0) (by omega) (by omega)
    split_ifs <;> first | rfl | tauto
  refine Eq.trans ?_ (congrArg (· - p (ix2 r d)) e)
  pointwise []

theorem out_apply (h : FVec Ideal S512x2048 .bf16) (w : FVec Ideal S2048x1152 .bf16) (mu : FVec Ideal S1x1152 .f32) (k : FVec Ideal S1x8x1152 .f32)
    (r : Fin 512) (d : Fin 1152) :
    outAt (F := Ideal) h w mu k (ix2 r d) = k0_pay5 (F := Ideal) h w (ix2 r d) + k0_pay6 (F := Ideal) h w k (ix2 r d) * mu (ix2 0 d) := by
  rw [← weight_apply mu r d]
  unfold outAt
  pointwise [k0_pay1]

theorem idx : ∀ t : Fin cfg0.N,
    win0_0.index t = ![t.val / 3, 0] ∧ win0_1.index t = ![0, 0] ∧ win0_2.index t = ![0, t.val % 3] ∧ win0_3.index t = ![0, t.val % 3]
      ∧ win0_4.index t = ![t.val / 3, t.val % 3] :=
  (by decide +kernel : ∀ t : Fin grid0.N, _)

/-! ## The arrays the kernel reads -/

/-- The tokens' rows, as the host lays them out for the kernel. -/
def rows (x : FVec Ideal S4x8192x2048 .f32) : FVec Ideal S32768x2048 .f32 := shapeCast S32768x2048 x shapeCasts_S4x8192x2048_S32768x2048

theorem rows_apply (x : FVec Ideal S4x8192x2048 .f32) (a : Fin 32768) (l : Fin 2048) :
    rows x (ix2 a l) = x (ix3 ⟨a.val / 8192, by omega⟩ ⟨a.val % 8192, by omega⟩ l) := by
  refine shapeCast_apply _ _ _ _ ?_
  rw [Shape.rowMajor_val_three, Shape.rowMajor_val_two]
  show ((a.val / 8192) * 8192 + a.val % 8192) * 2048 + l.val = a.val * 2048 + l.val
  omega

/-- The padding value: the host's integer zero as a float. -/
def padding : FVec Ideal S_ .f32 := sitofp .f32 (constantI S_ 32 0#32)

theorem padding_eq (i : S_.Idx) : padding i = 0 := by
  exact sitofp_zero

/-- Columns past the last one are padding. -/
theorem pad_cols {α : Type} {n : ℕ} (x : (⟨2, ![n, 3360]⟩ : Shape).Idx → α) (v : S_.Idx → α)
    (h : (⟨2, ![n, 3360]⟩ : Shape).Pads ![0, 0] ![0, 96] ![0, 0] ⟨2, ![n, 3456]⟩) (hu : 0 < S_.numel) (a : Fin n) (d : Fin 3456) :
    pad ⟨2, ![n, 3456]⟩ ![0, 0] ![0, 96] ![0, 0] x v h hu (ix2 a d) = if hd : d.val < 3360 then x (ix2 a ⟨d.val, hd⟩) else v (Shape.Idx.first hu) := by
  split
  · next hd =>
    refine pad_apply_of_inside _ _ _ x v h hu (ix2 a d) (ix2 a ⟨d.val, hd⟩) fun b => ?_
    match b with
    | ⟨0, _⟩ => show a.val = 0 + a.val * (0 + 1); omega
    | ⟨1, _⟩ => show d.val = 0 + d.val * (0 + 1); omega
  · next hd =>
    refine pad_apply_of_not_inside _ _ _ x v h hu (ix2 a d) (1 : Fin 2) fun hb => hd ?_
    have h3 : (d.val - 0) / (0 + 1) < 3360 := hb.2.2
    omega

/-- The weight's columns past 3072, padded. -/
def cols (w : FVec Ideal S1x2048x6432 .f32) : FVec Ideal S2048x3456 .bf16 :=
  truncf .bf16 (pad S2048x3456 ![0, 0] ![0, 96] ![0, 0]
    (extractStridedSlice S2048x3360 ![0, 3072] (shapeCast S2048x6432 w shapeCasts_S1x2048x6432_S2048x6432) slices_S2048x6432_S2048x3360_0_3072 : FVec Ideal S2048x3360 .f32)
    padding pads_S2048x3360_S2048x3456_000_0960 h_S_ : FVec Ideal S2048x3456 .f32) bitsLt_bf16_f32

/-- The shift's weights, padded. -/
def shares (mu : FVec Ideal S1x3360 .f32) : FVec Ideal S1x3456 .f32 :=
  pad S1x3456 ![0, 0] ![0, 96] ![0, 0] (shapeCast S1x3360 (shapeCast S3360 mu shapeCasts_S1x3360_S3360) shapeCasts_S3360_S1x3360 : FVec Ideal S1x3360 .f32)
    padding pads_S1x3360_S1x3456_000_0960 h_S_

/-- A weight of the padded columns. -/
def weight (w : FVec Ideal S1x2048x6432 .f32) (k : Fin 2048) (d : Fin 3456) : EReal :=
  if hd : d.val < 3360 then w (ix3 0 k ⟨3072 + d.val, by omega⟩) else 0

/-- A shift's weight of the padded columns. -/
def share (mu : FVec Ideal S1x3360 .f32) (d : Fin 3456) : EReal := if hd : d.val < 3360 then mu (ix2 0 ⟨d.val, hd⟩) else 0

theorem cols_apply (w : FVec Ideal S1x2048x6432 .f32) (k : Fin 2048) (d : Fin 3456) : cols w (ix2 k d) = weight w k d := by
  unfold cols
  rw [truncf_apply]
  refine (pad_cols _ padding _ _ k d).trans ?_
  unfold weight
  split
  · pointwise []
  · exact padding_eq _

theorem shares_apply (mu : FVec Ideal S1x3360 .f32) (d : Fin 3456) : shares mu (ix2 0 d) = share mu d := by
  unfold shares
  refine (pad_cols _ padding _ _ 0 d).trans ?_
  unfold share
  split
  · pointwise []
  · exact padding_eq _

/-! ## The result -/

/-- Row `a` of the normed tokens times column `d` of the padded weight. -/
def proj (x : FVec Ideal S4x8192x2048 .f32) (n : FVec Ideal S1x2048 .f32) (w : FVec Ideal S1x2048x6432 .f32) (a : Fin 32768) (d : Fin 3456) : EReal :=
  ∑ k : Fin 2048, Norm.rms (fun l => x (ix3 ⟨a.val / 8192, by omega⟩ ⟨a.val % 8192, by omega⟩ l)) (fun l => n (ix2 0 l)) k * weight w k d

/-- The same at the row before, zero at a sequence's start. -/
def prev (x : FVec Ideal S4x8192x2048 .f32) (n : FVec Ideal S1x2048 .f32) (w : FVec Ideal S1x2048x6432 .f32) (a : Fin 32768) (d : Fin 3456) : EReal :=
  if a.val % 8192 = 0 then 0 else proj x n w ⟨a.val - 1, by omega⟩ d

/-- The shifted projections. -/
def res (x : FVec Ideal S4x8192x2048 .f32) (n : FVec Ideal S1x2048 .f32) (w : FVec Ideal S1x2048x6432 .f32) (mu : FVec Ideal S1x3360 .f32) : FVec Ideal S32768x3456 .bf16 :=
  fun y => proj x n w (y 0) (y 1) + (prev x n w (y 0) (y 1) - proj x n w (y 0) (y 1)) * share mu (y 1)

variable (m : (ℓ : Loc nD τ sig) → Buf (Elt Ideal) ℓ) (c : Dev nD)

/-- The tokens. -/
abbrev tok : FVec Ideal S4x8192x2048 .f32 := m ((c : Thread nD τ).loc main_arg0)
/-- The norm's weight. -/
abbrev nw : FVec Ideal S1x2048 .f32 := m ((c : Thread nD τ).loc main_arg1)
/-- The projection's weight. -/
abbrev pw : FVec Ideal S1x2048x6432 .f32 := m ((c : Thread nD τ).loc main_arg2)
/-- The shift's weights. -/
abbrev sw : FVec Ideal S1x3360 .f32 := m ((c : Thread nD τ).loc main_arg3)

theorem V_main_v7 (a : Fin 32768) (l : Fin 2048) : (V m c main_v7 : FVec Ideal S32768x2048 .f32) (ix2 a l)
    = tok m c (ix3 ⟨a.val / 8192, by omega⟩ ⟨a.val % 8192, by omega⟩ l) := by
  have e : (V m c main_v7 : FVec Ideal S32768x2048 .f32) = rows (tok m c) := by
    show StableHlo.after (List.flatten [hostOps0, hostOps0_1, hostOps0_2, hostOps0_3, hostOps0_4]) _ (Proc.devRef .tc main_v7) = _
    simp only [List.flatten_cons, List.flatten_nil, List.append_nil, List.cons_append, List.nil_append]
    after_results
    rfl
  rw [e, rows_apply]

theorem V_main_v9 (l : Fin 2048) : (V m c main_v9 : FVec Ideal S1x2048 .f32) (ix2 0 l) = nw m c (ix2 0 l) := by
  have e : V m c main_v9 = shapeCast S1x2048 (shapeCast S2048 (nw m c) shapeCasts_S1x2048_S2048) shapeCasts_S2048_S1x2048 := by
    show StableHlo.after (List.flatten [hostOps0, hostOps0_1, hostOps0_2, hostOps0_3, hostOps0_4]) _ (Proc.devRef .tc main_v9) = _
    simp only [List.flatten_cons, List.flatten_nil, List.append_nil, List.cons_append, List.nil_append]
    after_results
    rfl
  rw [e]
  pointwise []

theorem V_main_v3 (k : Fin 2048) (d : Fin 3456) : (V m c main_v3 : FVec Ideal S2048x3456 .bf16) (ix2 k d) = weight (pw m c) k d := by
  have e : (V m c main_v3 : FVec Ideal S2048x3456 .bf16) = cols (pw m c) := by
    show StableHlo.after (List.flatten [hostOps0, hostOps0_1, hostOps0_2, hostOps0_3, hostOps0_4]) _ (Proc.devRef .tc main_v3) = _
    simp only [List.flatten_cons, List.flatten_nil, List.append_nil, List.cons_append, List.nil_append]
    after_results
    rfl
  rw [e, cols_apply]

theorem V_main_v6 (d : Fin 3456) : (V m c main_v6 : FVec Ideal S1x3456 .f32) (ix2 0 d) = share (sw m c) d := by
  have e : (V m c main_v6 : FVec Ideal S1x3456 .f32) = shares (sw m c) := by
    show StableHlo.after (List.flatten [hostOps0, hostOps0_1, hostOps0_2, hostOps0_3, hostOps0_4]) _ (Proc.devRef .tc main_v6) = _
    simp only [List.flatten_cons, List.flatten_nil, List.append_nil, List.cons_append, List.nil_append]
    after_results
    rfl
  rw [e, shares_apply]

theorem lt_N (t : Fin cfg0.N) : t.val < 192 := lt_of_lt_of_eq t.isLt (show cfg0.N = 192 from N_0)

theorem blk0 (t : Fin cfg0.N) (r : Fin 512) (l : Fin 2048) :
    (iblk m c 0 t : FVec Ideal S512x2048 .f32) (ix2 r l)
      = tok m c (ix3 ⟨(512 * (t.val / 3) + r.val) / 8192, by have := lt_N t; omega⟩ ⟨(512 * (t.val / 3) + r.val) % 8192, by omega⟩ l) := by
  have ht := lt_N t
  refine Eq.trans ?_ (V_main_v7 m c ⟨512 * (t.val / 3) + r.val, by omega⟩ l)
  blk_simp [iblk]
  congr 1
  blk_ext [(idx t).1]

theorem blk1 (t : Fin cfg0.N) (l : Fin 2048) : (iblk m c 1 t : FVec Ideal S1x2048 .f32) (ix2 0 l) = nw m c (ix2 0 l) := by
  rw [← V_main_v9 m c]
  blk_simp [iblk]
  congr 1
  blk_ext [(idx t).2.1]

theorem blk2 (t : Fin cfg0.N) (k : Fin 2048) (d : Fin 1152) :
    (iblk m c 2 t : FVec Ideal S2048x1152 .bf16) (ix2 k d) = weight (pw m c) k ⟨1152 * (t.val % 3) + d.val, by omega⟩ := by
  refine Eq.trans ?_ (V_main_v3 m c k ⟨1152 * (t.val % 3) + d.val, by omega⟩)
  blk_simp [iblk]
  congr 1
  blk_ext [(idx t).2.2.1]

theorem blk3 (t : Fin cfg0.N) (d : Fin 1152) :
    (iblk m c 3 t : FVec Ideal S1x1152 .f32) (ix2 0 d) = share (sw m c) ⟨1152 * (t.val % 3) + d.val, by omega⟩ := by
  refine Eq.trans ?_ (V_main_v6 m c ⟨1152 * (t.val % 3) + d.val, by omega⟩)
  blk_simp [iblk]
  congr 1
  blk_ext [(idx t).2.2.2.1]

/-! ## The block of a point -/

/-- The product at point `t`, row `r`, column `d`, as a global row and column. -/
theorem prod_at (t : Fin cfg0.N) (r : Fin 512) (d : Fin 1152) :
    k0_pay5 (F := Ideal) (normed m c t) (iblk m c 2 t) (ix2 r d)
      = proj (tok m c) (nw m c) (pw m c) ⟨512 * (t.val / 3) + r.val, by have := lt_N t; omega⟩ ⟨1152 * (t.val % 3) + d.val, by omega⟩ := by
  refine (prod_apply _ _ r d).trans ?_
  unfold proj
  refine Finset.sum_congr rfl fun k _ => ?_
  rw [blk2 m c]
  refine congrArg (· * _) ?_
  unfold normed
  refine (normed_apply _ _ r k).trans ?_
  have hs : (start t).val / 3 = t.val / 3 := by show t.val / 3 * 3 / 3 = t.val / 3; omega
  simp only [blk0 m c, blk1 m c, hs]

/-- The kept row: the row before the block's first, zero at a sequence's start. -/
theorem kept_at (t : Fin cfg0.N) (d : Fin 1152) :
    keptAt (F := Ideal) (grid0.coords t) (lastRows m c (before t)) (ix3 0 7 d)
      = prev (tok m c) (nw m c) (pw m c) ⟨512 * (t.val / 3), by have := lt_N t; omega⟩ ⟨1152 * (t.val % 3) + d.val, by omega⟩ := by
  have ht := lt_N t
  unfold keptAt prev
  by_cases h : t.val / 3 % 16 = 0
  · rw [if_pos ((cond2_iff t).2 h), if_pos (by show 512 * (t.val / 3) % 8192 = 0; omega)]
    exact zero_apply d
  · rw [if_neg (fun h' => h ((cond2_iff t).1 h')), if_neg (by show ¬(512 * (t.val / 3) % 8192 = 0); omega)]
    unfold lastRows
    refine (last_apply _ d).trans ((prod_at m c (before t) 511 d).trans ?_)
    have e1 : (before t).val = t.val - 3 := rfl
    congr 1
    · exact Fin.ext (by show 512 * ((before t).val / 3) + 511 = 512 * (t.val / 3) - 1; rw [e1]; omega)
    · exact Fin.ext (by show 1152 * ((before t).val % 3) + d.val = 1152 * (t.val % 3) + d.val; rw [e1]; omega)

theorem block_at (t : Fin cfg0.N) (r : Fin 512) (d : Fin 1152) :
    block m c t (ix2 r d) = res (tok m c) (nw m c) (pw m c) (sw m c)
      (ix2 ⟨512 * (t.val / 3) + r.val, by have := lt_N t; omega⟩ ⟨1152 * (t.val % 3) + d.val, by omega⟩) := by
  have ht := lt_N t
  unfold block
  refine (out_apply _ _ _ _ r d).trans ?_
  rw [above_apply, prod_at, blk3, kept_at, prod_at]
  have e : (if r.val = 0 then prev (tok m c) (nw m c) (pw m c) ⟨512 * (t.val / 3), by omega⟩ ⟨1152 * (t.val % 3) + d.val, by omega⟩
        else proj (tok m c) (nw m c) (pw m c) ⟨512 * (t.val / 3) + (r.val - 1), by omega⟩ ⟨1152 * (t.val % 3) + d.val, by omega⟩)
      = prev (tok m c) (nw m c) (pw m c) ⟨512 * (t.val / 3) + r.val, by omega⟩ ⟨1152 * (t.val % 3) + d.val, by omega⟩ := by
    split
    · next h0 => simp only [h0, Nat.add_zero]
    · next h0 =>
      unfold prev
      rw [if_neg (by show ¬((512 * (t.val / 3) + r.val) % 8192 = 0); omega)]
      congr 1
      exact Fin.ext (by show 512 * (t.val / 3) + (r.val - 1) = 512 * (t.val / 3) + r.val - 1; omega)
  exact congrArg (fun z => _ + (z - _) * _) e

/-- The result array. -/
theorem arr_eq : (dats m 0 c).arrAt 4 cfg0.N = res (tok m c) (nw m c) (pw m c) (sw m c) := by
  refine (dats m 0 c).arrAt_eq_of_covers 4 _ (by decide +kernel) fun t hf y => ?_
  blk_simp
  rw [after0_4]
  have hy : ∃ (r : Fin 512) (d : Fin 1152), y = ix2 r d := ⟨y 0, y 1, by funext a; match a with | ⟨0, _⟩ => rfl | ⟨1, _⟩ => rfl⟩
  obtain ⟨r, d, rfl⟩ := hy
  have ht := lt_N t
  refine (block_at m c t r d).trans ?_
  have e : (win0_4.blk t).view.emb (ix2 r d) = ix2 ⟨512 * (t.val / 3) + r.val, by omega⟩ ⟨1152 * (t.val % 3) + d.val, by omega⟩ := by
    blk_ext [(idx t).2.2.2.2]
  rw [e]

/-- The run: the result is the shifted projections, and the arguments end as launched. -/
theorem run (ρ : Dev nD → PrngReg) : θ_run defs (onTc (τ := τ) (main (F := Ideal))) ⟨m, fun _ => 0, ρ⟩ fun r => ∀ c : Dev nD,
      r.2.mem ((c : Thread nD τ).loc main_v10) = res (tok m c) (nw m c) (pw m c) (sw m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (arr_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.ShiftIdeal.Calc

end
-- ==== Proof.ShiftRefVal.lean ====
module

public import proofs.«01_k».proof.Proof.Gen.ShiftRefIdeal.Read
public import proofs.«01_k».proof.Proof.Gen.ShiftRefIdeal.Run
public import proofs.«01_k».proof.Proof.Norm
public import Idealize.ShloMosaic.Lib.KernelVsHost

@[expose] public section

noncomputable section

namespace Cert.ShiftRefIdeal.Calc

open Idealize.ShloMosaic Idealize.ShloMosaic.TcCoe
open Cert.ShiftRefIdeal Cert.ShiftRefIdeal.Gen Cert.ShiftRefIdeal.Read

variable (x0 : FVec Ideal S4x8192x2048 .f32) (x1 : FVec Ideal S1x2048 .f32) (x2 : FVec Ideal S1x2048x6432 .f32) (x3 : FVec Ideal S1x3360 .f32)

theorem v13_eq (i : S4x8192x2048.Idx) : val_main_v13 (F := Ideal) x0 x1 i
    = Norm.rms (fun l => x0 (ValueIdx.ix3 (i 0) (i 1) l)) (fun k => x1 (ValueIdx.ix2 0 k)) (i 2) := by
  have ez : val_main_cst (F := Ideal) (Shape.Idx.first h_S_) = 0 := Cert.KernelIdeal.Attn.bits_zero
  have ew : idx_main_v0 (idx_main_v11 (idx_main_v12 i)) = ValueIdx.ix2 0 (i 2) := funext fun b => Fin.ext (by
    have h1 : (i 2).val < 2048 := (i 2).isLt
    match b with
    | ⟨0, _⟩ => rfl
    | ⟨1, _⟩ => show (i 2).val % 2048 = (i 2).val; omega)
  have ei : i = ValueIdx.ix3 (i 0) (i 1) (i 2) := funext fun a => by match a with | ⟨0, _⟩ => rfl | ⟨1, _⟩ => rfl | ⟨2, _⟩ => rfl
  have e0 : x0 i = x0 (ValueIdx.ix3 (i 0) (i 1) (i 2)) := congrArg _ ei
  have e2 : ∀ k : Fin 2048, idx_main_v2 (idx_main_v3 (idx_main_v9 i)) k = ValueIdx.ix3 (i 0) (i 1) k := fun k => funext fun b => by
    match b with
    | ⟨0, _⟩ => rfl
    | ⟨1, _⟩ => rfl
    | ⟨2, _⟩ => rfl
  rw [val_main_v13_apply, val_main_v12_apply, val_main_v11_apply, val_main_v0_apply, ew, val_main_v10_apply, val_main_v9_apply, val_main_v8_apply, val_main_v7_apply,
    val_main_v6_apply, val_main_cst_1_apply, val_main_v5_apply, val_main_v4_apply, val_main_cst_0_apply, val_main_v3_apply, val_main_v2_apply, ez, zero_add, e0]
  simp only [val_main_v1_apply, e2]
  rfl

theorem v14_eq (k : Fin 2048) (d : Fin 6432) : val_main_v14 (F := Ideal) x2 (ValueIdx.ix2 k d) = x2 (ValueIdx.ix3 0 k d) := by
  rw [val_main_v14_apply]
  refine congrArg x2 (funext fun b => Fin.ext ?_)
  match b with
  | ⟨0, _⟩ => rfl
  | ⟨1, _⟩ => show (k.val * 6432 + d.val) / 6432 % 2048 = k.val; omega
  | ⟨2, _⟩ => show (k.val * 6432 + d.val) % 6432 = d.val; omega

/-- Row `t` of sequence `b` times column `d` of the shift's columns. -/
def prod (b : Fin 4) (t : Fin 8192) (d : Fin 3360) : EReal :=
  ∑ k : Fin 2048, Norm.rms (fun l => x0 (ValueIdx.ix3 b t l)) (fun l => x1 (ValueIdx.ix2 0 l)) k * x2 (ValueIdx.ix3 0 k ⟨3072 + d.val, by omega⟩)

theorem v16_eq (b : Fin 4) (t : Fin 8192) (d : Fin 3360) : val_main_v16 (F := Ideal) x0 x1 x2 (ValueIdx.ix3 b t d) = prod x0 x1 x2 b t d := by
  rw [val_main_v16_apply, val_main_v15_apply]
  have e : idx_main_v16 (ValueIdx.ix3 b t d) = ValueIdx.ix3 b t ⟨3072 + d.val, by omega⟩ := funext fun a => Fin.ext (by
    match a with
    | ⟨0, _⟩ => rfl
    | ⟨1, _⟩ => rfl
    | ⟨2, _⟩ => first | rfl | exact Nat.add_comm _ _)
  rw [e]
  refine Finset.sum_congr rfl fun k _ => ?_
  rw [v13_eq]
  have er : ridx_main_v15 (ValueIdx.ix3 b t (⟨3072 + d.val, by omega⟩ : Fin 6432)) k = ValueIdx.ix2 k ⟨3072 + d.val, by omega⟩ := funext fun a => by
    match a with
    | ⟨0, _⟩ => rfl
    | ⟨1, _⟩ => rfl
  exact congrArg₂ (· * ·) rfl ((congrArg _ er).trans (v14_eq x2 k ⟨3072 + d.val, by omega⟩))

theorem zero_eq : val_main_call0_v0 (F := Ideal) (Shape.Idx.first h_S_) = 0 := by
  rw [val_main_call0_v0_apply, val_main_c_apply]
  exact sitofp_zero (φ := .f32)

theorem zero_eq' : val_main_call1_v0 (F := Ideal) (Shape.Idx.first h_S_) = 0 := by
  rw [val_main_call1_v0_apply, val_main_c_2_apply]
  exact sitofp_zero (φ := .f32)

/-- The product of the row before, zero at a sequence's start. -/
theorem v18_eq (b : Fin 4) (t : Fin 8192) (d : Fin 3360) : val_main_v18 (F := Ideal) x0 x1 x2 (ValueIdx.ix3 b t d)
    = if t.val = 0 then 0 else prod x0 x1 x2 b ⟨t.val - 1, by omega⟩ d := by
  rw [val_main_v18_apply]
  unfold val_main_v17
  split
  · next h0 =>
    refine (pad_apply_of_not_inside _ _ _ _ _ _ _ _ (1 : Fin 3) fun hb => ?_).trans zero_eq
    have h1 : 1 ≤ t.val := hb.1
    omega
  · next h0 =>
    refine (pad_apply_of_inside _ _ _ _ _ _ _ _ (ValueIdx.ix3 b ⟨t.val - 1, by omega⟩ d) fun a => ?_).trans (v16_eq x0 x1 x2 _ _ _)
    match a with
    | ⟨0, _⟩ => show b.val = 0 + b.val * (0 + 1); omega
    | ⟨1, _⟩ => show t.val = 1 + (t.val - 1) * (0 + 1); omega
    | ⟨2, _⟩ => show d.val = 0 + d.val * (0 + 1); omega

theorem v22_eq (b : Fin 4) (t : Fin 8192) (d : Fin 3360) : val_main_v22 (F := Ideal) x3 (ValueIdx.ix3 b t d) = x3 (ValueIdx.ix2 0 d) := by
  rw [val_main_v22_apply, val_main_v21_apply, val_main_v20_apply]
  refine congrArg x3 (funext fun a => Fin.ext ?_)
  match a with
  | ⟨0, _⟩ => rfl
  | ⟨1, _⟩ => show d.val % 3360 = d.val; omega

/-- The shifted product. -/
theorem v25_eq (a : Fin 32768) (d : Fin 3360) : val_main_v25 (F := Ideal) x0 x1 x2 x3 (ValueIdx.ix2 a d)
    = prod x0 x1 x2 ⟨a.val / 8192, by omega⟩ ⟨a.val % 8192, by omega⟩ d
      + ((if a.val % 8192 = 0 then 0 else prod x0 x1 x2 ⟨a.val / 8192, by omega⟩ ⟨a.val % 8192 - 1, by omega⟩ d)
          - prod x0 x1 x2 ⟨a.val / 8192, by omega⟩ ⟨a.val % 8192, by omega⟩ d) * x3 (ValueIdx.ix2 0 d) := by
  rw [val_main_v25_apply, val_main_v24_apply, val_main_v23_apply, val_main_v19_apply]
  have e : idx_main_v25 (ValueIdx.ix2 a d) = ValueIdx.ix3 ⟨a.val / 8192, by omega⟩ ⟨a.val % 8192, by omega⟩ d := funext fun b => Fin.ext (by
    match b with
    | ⟨0, _⟩ => show (a.val * 3360 + d.val) / 27525120 = a.val / 8192; omega
    | ⟨1, _⟩ => show (a.val * 3360 + d.val) / 3360 % 8192 = a.val % 8192; omega
    | ⟨2, _⟩ => show (a.val * 3360 + d.val) % 3360 = d.val; omega)
  rw [e, v16_eq, v18_eq, v22_eq]
  rfl

theorem v27_eq (a : Fin 32768) (d : Fin 3456) : val_main_v27 (F := Ideal) x0 x1 x2 x3 (ValueIdx.ix2 a d)
    = if hd : d.val < 3360 then val_main_v25 (F := Ideal) x0 x1 x2 x3 (ValueIdx.ix2 a ⟨d.val, hd⟩) else 0 := by
  rw [val_main_v27_apply]
  show val_main_v26 (F := Ideal) x0 x1 x2 x3 (ValueIdx.ix2 a d) = _
  unfold val_main_v26
  split
  · next hd =>
    refine pad_apply_of_inside _ _ _ _ _ _ _ _ (ValueIdx.ix2 a ⟨d.val, hd⟩) fun b => ?_
    match b with
    | ⟨0, _⟩ => show a.val = 0 + a.val * (0 + 1); omega
    | ⟨1, _⟩ => show d.val = 0 + d.val * (0 + 1); omega
  · next hd =>
    refine (pad_apply_of_not_inside _ _ _ _ _ _ _ _ (1 : Fin 2) fun hb => hd ?_).trans zero_eq'
    have h3 : (d.val - 0) / (0 + 1) < 3360 := hb.2.2
    omega

end Cert.ShiftRefIdeal.Calc

end
-- ==== Proof.ShiftClaims.lean ====
/-
  The claims of the token-shift projection. The kernel's padded columns come out as the reference's zeros: a column of zero
  weights has product zero at every row, and zero moved towards zero is zero.
-/
module

public import proofs.«01_k».proof.Defs
public import proofs.«01_k».proof.Proof.ShiftFrame
public import proofs.«01_k».proof.Proof.ShiftVal
public import proofs.«01_k».proof.Proof.ShiftRefVal
public import Idealize.ShloMosaic.Adequacy
public import Idealize.ShloMosaic.Init

@[expose] public section

set_option maxRecDepth 16384

noncomputable section

open Idealize.ShloMosaic Idealize.ShloMosaic.TcCoe Idealize.SL.Sem

namespace ShiftClaims

open Cert.ShiftIdeal (S4x8192x2048 S1x2048 S1x2048x6432 S1x3360)
open Cert.ShiftIdeal.Calc (proj prev weight share res)

theorem frame_p : Cert.quiescent_Shift := fun m ρ _ => Cert.Shift.Carry.frame m ρ
theorem frame_pi : Cert.quiescent_ShiftIdeal := fun m ρ _ => Cert.ShiftIdeal.Carry.frame m ρ
theorem frame_ri : Cert.quiescent_ShiftRefIdeal := fun m ρ _ =>
  (θ_run Cert.ShiftRefIdeal.defs _ _).mono (fun r h => ⟨fun c => (h c).2, Idealize.ShloMosaic.sem_eq_zero_of_no_sems (by decide) r.2⟩)
    (Cert.ShiftRefIdeal.Value.run (F := Ideal) m ρ)

theorem preserves : Cert.preserves_Shift_ShiftIdeal := trivial

variable (x : FVec Ideal S4x8192x2048 .f32) (n : FVec Ideal S1x2048 .f32) (w : FVec Ideal S1x2048x6432 .f32) (mu : FVec Ideal S1x3360 .f32)

/-- A true column's product is the reference's. -/
theorem proj_true (a : Fin 32768) (d : Fin 3456) (hd : d.val < 3360) :
    proj x n w a d = Cert.ShiftRefIdeal.Calc.prod x n w ⟨a.val / 8192, by omega⟩ ⟨a.val % 8192, by omega⟩ ⟨d.val, hd⟩ := by
  unfold proj Cert.ShiftRefIdeal.Calc.prod
  refine Finset.sum_congr rfl fun k _ => ?_
  unfold weight
  rw [dif_pos hd]
  rfl

/-- A padded column's product is zero. -/
theorem proj_padded (a : Fin 32768) (d : Fin 3456) (hd : ¬d.val < 3360) : proj x n w a d = 0 := by
  unfold proj
  refine Finset.sum_eq_zero fun k _ => ?_
  unfold weight
  rw [dif_neg hd, mul_zero]

theorem prev_true (a : Fin 32768) (d : Fin 3456) (hd : d.val < 3360) :
    prev x n w a d = if a.val % 8192 = 0 then 0
      else Cert.ShiftRefIdeal.Calc.prod x n w ⟨a.val / 8192, by omega⟩ ⟨a.val % 8192 - 1, by omega⟩ ⟨d.val, hd⟩ := by
  unfold prev
  split
  · rfl
  · next h0 =>
    rw [proj_true x n w _ d hd]
    congr 1
    · exact Fin.ext (by show (a.val - 1) / 8192 = a.val / 8192; omega)
    · exact Fin.ext (by show (a.val - 1) % 8192 = a.val % 8192 - 1; omega)

theorem prev_padded (a : Fin 32768) (d : Fin 3456) (hd : ¬d.val < 3360) : prev x n w a d = 0 := by
  unfold prev
  rw [proj_padded x n w _ d hd, ite_self]

/-- The reference's result is the kernel's. -/
theorem values (a : Fin 32768) (d : Fin 3456) :
    Cert.ShiftRefIdeal.Read.val_main_v27 (F := Ideal) x n w mu (ValueIdx.ix2 a d) = res x n w mu (ValueIdx.ix2 a d) := by
  rw [Cert.ShiftRefIdeal.Calc.v27_eq]
  show _ = proj x n w a d + (prev x n w a d - proj x n w a d) * share mu d
  unfold share
  by_cases hd : d.val < 3360
  · rw [dif_pos hd, dif_pos hd, Cert.ShiftRefIdeal.Calc.v25_eq, proj_true x n w a d hd, prev_true x n w a d hd]
    rfl
  · rw [dif_neg hd, dif_neg hd, proj_padded x n w a d hd, mul_zero, add_zero]

/-- The shifted projection equals the reference's. -/
theorem algebraic : Cert.algebraic_ShiftIdeal_ShiftRefIdeal := by
  intro m g m' g' hpre hm
  refine ⟨fun c => res _ _ _ _, Cert.ShiftIdeal.Calc.run m g,
    (θ_run Cert.ShiftRefIdeal.defs _ _).mono (fun r h c => ⟨(h c).1.trans ?_, (h c).2⟩) (Cert.ShiftRefIdeal.Value.run (F := Ideal) m' g')⟩
  rw [Cert.ShiftRefIdeal.Read.val_main_v27_eq, (hm c).1, (hm c).2.1, (hm c).2.2.1, (hm c).2.2.2]
  funext i
  have hi : i = ValueIdx.ix2 (i 0) (i 1) := funext fun a => by match a with | ⟨0, _⟩ => rfl | ⟨1, _⟩ => rfl
  exact (congrArg _ hi).trans (values _ _ _ _ (i 0) (i 1))

end ShiftClaims

end
-- ==== Proof.RouteDefs.lean ====
module

public import proofs.«01_k».proof.Proof.Gen.RouteIdeal.Frame
public import proofs.«01_k».proof.Proof.Gen.RouteIdeal.Skeleton
public import Idealize.ShloMosaic.Lib.Pointwise
public import Idealize.ShloMosaic.Lib.VecWindow

@[expose] public section

set_option maxRecDepth 16384

noncomputable section

namespace Cert.RouteIdeal.Carry

open Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A trip's values -/

/-- Row `j` of the scores, `x`'s own being the group, -/
def part (j : Fin 16) (s : Vec F S16x128x256 .f32) : Vec F S1x128x256 .f32 := fun x => s (ix3 j (x 1) (x 2))

theorem trips_eq : k0_t1_loop.trips = 8 := by decide

/-- and the two parts that head `k` reads. -/
def lo (k : Fin k0_t1_loop.trips) : Fin 16 := ⟨2 * k.val, by have := Nat.lt_of_lt_of_eq k.isLt trips_eq; omega⟩
def hi (k : Fin k0_t1_loop.trips) : Fin 16 := ⟨2 * k.val + 1, by have := Nat.lt_of_lt_of_eq k.isLt trips_eq; omega⟩

/-- The 16 largest scores of the first part, -/
def topA (v : Vec F S1x128x256 .f32) : Fin 16 → Vec F S1x256 .f32 :=
  ![k0_pay6 v, k0_pay8 v, k0_pay10 v, k0_pay12 v, k0_pay14 v, k0_pay16 v,
    k0_pay18 (k0_pay15 v) (k0_pay16 v), k0_pay20 (k0_pay15 v) (k0_pay16 v), k0_pay22 (k0_pay15 v) (k0_pay16 v), k0_pay24 (k0_pay15 v) (k0_pay16 v),
    k0_pay26 (k0_pay15 v) (k0_pay16 v), k0_pay28 (k0_pay15 v) (k0_pay16 v), k0_pay30 (k0_pay15 v) (k0_pay16 v),
    k0_pay34 (k0_pay29 (k0_pay15 v) (k0_pay16 v)) (k0_pay31 (k0_pay15 v) (k0_pay16 v)) k0_pay32,
    k0_pay36 (k0_pay29 (k0_pay15 v) (k0_pay16 v)) (k0_pay31 (k0_pay15 v) (k0_pay16 v)) k0_pay32,
    k0_pay37 (k0_pay29 (k0_pay15 v) (k0_pay16 v)) (k0_pay31 (k0_pay15 v) (k0_pay16 v)) k0_pay32]

/-- and of the second. -/
def topB (v : Vec F S1x128x256 .f32) : Fin 16 → Vec F S1x256 .f32 :=
  let b := k0_pay5 v
  let c := k0_pay47 b
  ![k0_pay38 b, k0_pay40 b, k0_pay42 b, k0_pay44 b, k0_pay46 b, k0_pay48 c, k0_pay50 c, k0_pay52 c, k0_pay54 c, k0_pay56 c, k0_pay58 c,
    k0_pay60 c, k0_pay62 c, k0_pay65 (k0_pay61 c) (k0_pay63 c), k0_pay67 (k0_pay61 c) (k0_pay63 c), k0_pay68 (k0_pay61 c) (k0_pay63 c)]

/-- The candidates' pairs, row by row. -/
def pairs : List (Fin 16 × Fin 16) :=
  [(0, 0), (0, 1), (0, 2), (0, 3), (0, 4), (0, 5), (0, 6), (0, 7), (0, 8), (0, 9), (0, 10), (0, 11), (0, 12), (0, 13), (0, 14), (0, 15),
    (1, 0), (1, 1), (1, 2), (1, 3), (1, 4), (1, 5), (1, 6), (1, 7), (2, 0), (2, 1), (2, 2), (2, 3), (2, 4), (3, 0), (3, 1), (3, 2), (3, 3),
    (4, 0), (4, 1), (4, 2), (5, 0), (5, 1), (6, 0), (6, 1), (7, 0), (7, 1), (8, 0), (9, 0), (10, 0), (11, 0), (12, 0), (13, 0), (14, 0), (15, 0)]

/-- The sum that the trip stores in row `n` of the candidates. -/
def row (A B : Fin 16 → Vec F S1x256 .f32) (n : ℕ) : Vec F S1x256 .f32 :=
  shapeCast S1x256 (addf (A (pairs.getD n (0, 0)).1) (B (pairs.getD n (0, 0)).2)) shapeCasts_S1x256_S1x256

/-- The candidates after the trip: 50 rows of sums, the rest as filled. -/
def cand (A B : Fin 16 → Vec F S1x256 .f32) : Vec F S56x256 .f32 := fun x =>
  if (x 0).val < 50 then row A B (x 0).val (ix2 0 (x 1)) else k0_pay2 (F := F) x

/-- The four matrices and the row that head `k` gets. -/
def w4 (s : Vec F S16x128x256 .f32) (k : Fin k0_t1_loop.trips) : Vec F S1x128x256 .f32 := k0_pay127 (k0_pay4 (part (lo k) s))
def w5 (s : Vec F S16x128x256 .f32) (k : Fin k0_t1_loop.trips) : Vec F S1x128x256 .f32 :=
  k0_pay128 (k0_pay4 (part (lo k) s)) (k0_pay6 (part (lo k) s))
def w6 (s : Vec F S16x128x256 .f32) (k : Fin k0_t1_loop.trips) : Vec F S1x128x256 .f32 := k0_pay129 (k0_pay5 (part (hi k) s))
def candAt (s : Vec F S16x128x256 .f32) (k : Fin k0_t1_loop.trips) : Vec F S56x256 .f32 := cand (topA (part (lo k) s)) (topB (part (hi k) s))
def restAt (s : Vec F S16x128x256 .f32) (k : Fin k0_t1_loop.trips) : FVec F S56x256 .f32 :=
  k0_pay125 (k0_pay123 (candAt s k)) (k0_pay124 (candAt s k))
def w7 (s : Vec F S16x128x256 .f32) (k : Fin k0_t1_loop.trips) : Vec F S1x128x256 .f32 :=
  k0_pay3 (k0_pay130 (k0_pay5 (part (hi k) s)) (k0_pay6 (part (lo k) s)) (k0_pay38 (k0_pay5 (part (hi k) s))) (candAt s k) (restAt s k))
def w8 (s : Vec F S16x128x256 .f32) (k : Fin k0_t1_loop.trips) : Vec F S1x256 .f32 := k0_pay126 (restAt s k)

/-- An array of the heads' matrices, or rows, with head `k`'s replaced. -/
def setMat (k : ℕ) (w : Vec F S1x128x256 .f32) (d : Vec F S8x128x256 .f32) : Vec F S8x128x256 .f32 := fun x =>
  if (x 0).val = k then w (ix3 0 (x 1) (x 2)) else d x
def setRow (k : ℕ) (w : Vec F S1x256 .f32) (d : Vec F S8x256 .f32) : Vec F S8x256 .f32 := fun x =>
  if (x 0).val = k then w (ix2 0 (x 1)) else d x

theorem off1_eq (k : Fin k0_t1_loop.trips) : k0_off1 k = ![2 * k.val, 0, 0] := by revert k; decide +kernel
theorem off2_eq (k : Fin k0_t1_loop.trips) : k0_off2 k = ![2 * k.val + 1, 0, 0] := by revert k; decide +kernel
theorem off3_eq (k : Fin k0_t1_loop.trips) : k0_off3 k = ![k.val, 0, 0] := by revert k; decide +kernel
theorem off4_eq (k : Fin k0_t1_loop.trips) : k0_off4 k = ![k.val, 0] := by revert k; decide +kernel

omit [FloatOps F] in
/-- A load of one part of the scores. -/
theorem ld_part (s : Vec F S16x128x256 .f32) (j : Fin 16) {off : Fin 3 → Nat} (e : off = ![j.val, 0, 0]) (inb) :
    View.ld (Val := Elt F) (e' := .f32) s (Rect.unit (s := S16x128x256) off S1x128x256.size inb) = part j s := by
  subst e
  funext x
  refine congrArg s (funext fun a => Fin.ext ?_)
  match a with
  | ⟨0, _⟩ => have h0 : (x 0).val < 1 := (x 0).isLt
              show j.val + 1 * (x 0).val = j.val; omega
  | ⟨1, _⟩ => show 0 + 1 * (x 1).val = (x 1).val; omega
  | ⟨2, _⟩ => show 0 + 1 * (x 2).val = (x 2).val; omega

section
variable {κ : Kind} {sp : Space}

omit [FloatOps F] in
theorem read_setMat (v : View sig κ sp S8x128x256 .f32) (f : v.ty.Contents (Elt F)) {off : Fin 3 → Nat} {k : ℕ} (e : off = ![k, 0, 0]) (inb)
    (w : Vec F S1x128x256 .f32) :
    v.read (Elt F) (v.writes (Elt F) f [⟨Rect.unit (s := S8x128x256) off S1x128x256.size inb, w⟩]) = setMat k w (v.read (Elt F) f) := by
  funext x
  unfold setMat
  split
  · rename_i h
    refine View.read_writes_cons_unit_of_mem v f inb w [] x (ix3 0 (x 1) (x 2)) e fun a => ?_
    match a with
    | ⟨0, _⟩ => show (x 0).val = k + 0; omega
    | ⟨1, _⟩ => show (x 1).val = 0 + (x 1).val; omega
    | ⟨2, _⟩ => show (x 2).val = 0 + (x 2).val; omega
  · rename_i h
    refine (View.read_writes_cons_unit_of_not_mem v f inb w [] x e 0 ?_).trans rfl
    show (x 0).val < k ∨ k + 1 ≤ (x 0).val
    omega

omit [FloatOps F] in
theorem read_setRow (v : View sig κ sp S8x256 .f32) (f : v.ty.Contents (Elt F)) {off : Fin 2 → Nat} {k : ℕ} (e : off = ![k, 0]) (inb)
    (w : Vec F S1x256 .f32) :
    v.read (Elt F) (v.writes (Elt F) f [⟨Rect.unit (s := S8x256) off S1x256.size inb, w⟩]) = setRow k w (v.read (Elt F) f) := by
  funext x
  unfold setRow
  split
  · rename_i h
    refine View.read_writes_cons_unit_of_mem v f inb w [] x (ix2 0 (x 1)) e fun a => ?_
    match a with
    | ⟨0, _⟩ => show (x 0).val = k + 0; omega
    | ⟨1, _⟩ => show (x 1).val = 0 + (x 1).val; omega
  · rename_i h
    refine (View.read_writes_cons_unit_of_not_mem v f inb w [] x e 0 ?_).trans rfl
    show (x 0).val < k ∨ k + 1 ≤ (x 0).val
    omega

theorem row_inb (n : ℕ) (h : n < 56) : ∀ a, (![n, 0] : Fin 2 → Nat) a + S1x256.size a ≤ S56x256.size a := fun a =>
  match a with
  | ⟨0, _⟩ => show n + 1 ≤ 56 by omega
  | ⟨1, _⟩ => show 0 + 256 ≤ 256 by omega

/-- The stores of the first `n` rows, the last one first. -/
def stores (r : ℕ → Vec F S1x256 .f32) : (n : ℕ) → n ≤ 56 → List (View.Piece (Elt F) S56x256 .f32)
  | 0, _ => []
  | n + 1, h => ⟨Rect.unit (s := S56x256) ![n, 0] S1x256.size (row_inb n h), r n⟩ :: stores r n (Nat.le_of_lt h)

omit [FloatOps F] in
theorem read_stores (v : View sig κ sp S56x256 .f32) (f : v.ty.Contents (Elt F)) (r : ℕ → Vec F S1x256 .f32) (n : ℕ) (hn : n ≤ 56) (x : S56x256.Idx) :
    v.read (Elt F) (v.writes (Elt F) f (stores r n hn)) x = if (x 0).val < n then r (x 0).val (ix2 0 (x 1)) else v.read (Elt F) f x := by
  induction n with
  | zero => rw [if_neg (Nat.not_lt_zero _)]; rfl
  | succ n ih =>
    by_cases h : (x 0).val = n
    · rw [if_pos (by omega)]
      refine (View.read_writes_cons_unit_of_mem v f (row_inb n hn) (r n) (stores r n (Nat.le_of_lt hn)) x (ix2 0 (x 1)) rfl fun a => ?_).trans (by rw [h])
      match a with
      | ⟨0, _⟩ => show (x 0).val = n + 0; omega
      | ⟨1, _⟩ => show (x 1).val = 0 + (x 1).val; omega
    · refine (View.read_writes_cons_unit_of_not_mem v f (row_inb n hn) (r n) (stores r n (Nat.le_of_lt hn)) x rfl 0 ?_).trans ((ih _).trans ?_)
      · show (x 0).val < n ∨ n + 1 ≤ (x 0).val
        omega
      · by_cases h' : (x 0).val < n
        · rw [if_pos h', if_pos (by omega)]
        · rw [if_neg h', if_neg (by omega)]
end

end Cert.RouteIdeal.Carry

end
-- ==== Proof.RouteTrip.lean ====
module

public import proofs.«01_k».proof.Proof.RouteDefs

@[expose] public section

set_option maxRecDepth 16384

noncomputable section

namespace Cert.RouteIdeal.Carry

open Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option maxRecDepth 65536 in
theorem trip_run (c : Dev nD) (i : grid0.Coords)
    (arg1 : Memref sig .tc .vmem S256x2048 .bf16) (harg1 : arg1.IsWhole) (arg2 : Memref sig .tc .vmem S2048x2048 .bf16) (harg2 : arg2.IsWhole)
    (arg3 : Memref sig .tc .vmem S16x128x128 .bf16) (harg3 : arg3.IsWhole)
    (arg4 : Memref sig .tc .vmem S8x128x256 .f32) (harg4 : arg4.IsWhole) (arg5 : Memref sig .tc .vmem S8x128x256 .f32) (harg5 : arg5.IsWhole)
    (arg6 : Memref sig .tc .vmem S8x128x256 .f32) (harg6 : arg6.IsWhole) (arg7 : Memref sig .tc .vmem S8x128x256 .f32) (harg7 : arg7.IsWhole)
    (arg8 : Memref sig .tc .vmem S8x256 .f32) (harg8 : arg8.IsWhole) (arg9 : Memref sig .tc .vmem S16x128x256 .f32) (harg9 : arg9.IsWhole)
    (arg10 : Memref sig .tc .vmem S56x256 .f32) (harg10 : arg10.IsWhole)
    (s : Vec F S16x128x256 .f32) (d4 d5 d6 d7 : Vec F S8x128x256 .f32) (d8 : Vec F S8x256 .f32) (d10 : Vec F S56x256 .f32)
    (k : Fin k0_t1_loop.trips) (hd : ∀ x, 50 ≤ (x 0).val → d10 x = k0_pay2 (F := F) x) (E : Set ℕ) (K : PUnit → sProp 𝕄) :
    iprop(owns (c : Thread nD τ) arg4 fullShare d4 ∗ owns (c : Thread nD τ) arg5 fullShare d5 ∗ owns (c : Thread nD τ) arg6 fullShare d6
        ∗ owns (c : Thread nD τ) arg7 fullShare d7 ∗ owns (c : Thread nD τ) arg8 fullShare d8 ∗ owns (c : Thread nD τ) arg9 fullShare s
        ∗ owns (c : Thread nD τ) arg10 fullShare d10
        ∗ (iprop(owns (c : Thread nD τ) arg4 fullShare (setMat k.val (w4 s k) d4) ∗ owns (c : Thread nD τ) arg5 fullShare (setMat k.val (w5 s k) d5)
            ∗ owns (c : Thread nD τ) arg6 fullShare (setMat k.val (w6 s k) d6) ∗ owns (c : Thread nD τ) arg7 fullShare (setMat k.val (w7 s k) d7)
            ∗ owns (c : Thread nD τ) arg8 fullShare (setRow k.val (w8 s k) d8) ∗ owns (c : Thread nD τ) arg9 fullShare s
            ∗ owns (c : Thread nD τ) arg10 fullShare (candAt s k)) -∗ K ⟨⟩))
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 k ()) K := by
  unfold k0_t1_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%fx, %hfx, HX⟩, Hk⟩
  have l1 : View.readAt (Elt F) arg9.view (Rect.unit (s := S16x128x256) (k0_off1 k) S1x128x256.size (k0_off1_inb k)).toLoadRect f9 = part (lo k) s :=
    (View.readAt_eq_ld _ _ _).trans ((congrArg (fun z => View.ld (Val := Elt F) (e' := .f32) z _) hf9).trans (ld_part s (lo k) (off1_eq k) _))
  have l2 : View.readAt (Elt F) arg9.view (Rect.unit (s := S16x128x256) (k0_off2 k) S1x128x256.size (k0_off2_inb k)).toLoadRect f9 = part (hi k) s :=
    (View.readAt_eq_ld _ _ _).trans ((congrArg (fun z => View.ld (Val := Elt F) (e' := .f32) z _) hf9).trans (ld_part s (hi k) (off2_eq k) _))
  sl_exec
  sl_step
  have hc : View.read (Elt F) arg10.view (arg10.view.writes (Elt F) fx (stores (row (topA (part (lo k) s)) (topB (part (hi k) s))) 50 (by decide))) = candAt s k := by
    funext x
    rw [read_stores]
    unfold candAt cand
    split
    · rfl
    · rename_i h
      exact (congrFun hfx x).trans (hd x (by omega))
  have hL : trip_run.sl.HX_50 c arg10 s k fx = stores (row (topA (part (lo k) s)) (topB (part (hi k) s))) 50 (by decide) := by
    sl_unfold_words
    simp only [stores, row, pairs, topA, topB, List.getD_cons_succ, List.getD_cons_zero, Matrix.cons_val]
    generalize part (lo k) s = v
    generalize part (hi k) s = w
    repeat refine congrArg₂ List.cons ?_ ?_
    all_goals rfl
  have hv : View.readAt (Elt F) arg10.view (Rect.unit (s := S56x256) ![0, 0] S56x256.size inb_S56x256_S56x256_0_0).toLoadRect
      (arg10.view.writes (Elt F) fx (trip_run.sl.HX_50 c arg10 s k fx)) = candAt s k :=
    (View.readAt_full _ _ _).trans ((congrArg (fun L => View.read (Elt F) arg10.view (arg10.view.writes (Elt F) fx L)) hL).trans hc)
  iapply Hk
  isplitl [H4]
  · iexists _; isplitr
    swap; · iexact H4
    ipureintro
    refine (read_setMat arg4.view f4 (off3_eq k) _ _).trans ?_
    rewrite [hf4]
    refine congrArg (fun w => setMat k.val w d4) ?_
    rfl
  isplitl [H5]
  · iexists _; isplitr
    swap; · iexact H5
    ipureintro
    refine (read_setMat arg5.view f5 (off3_eq k) _ _).trans ?_
    rewrite [hf5]
    refine congrArg (fun w => setMat k.val w d5) ?_
    rfl
  isplitl [H6]
  · iexists _; isplitr
    swap; · iexact H6
    ipureintro
    refine (read_setMat arg6.view f6 (off3_eq k) _ _).trans ?_
    rewrite [hf6]
    refine congrArg (fun w => setMat k.val w d6) ?_
    rfl
  isplitl [H7]
  · iexists _; isplitr
    swap; · iexact H7
    ipureintro
    refine (read_setMat arg7.view f7 (off3_eq k) _ _).trans ?_
    rewrite [hf7]
    refine congrArg (fun w => setMat k.val w d7) ?_
    unfold w7 restAt
    dsimp only
    rewrite [hv]
    rfl
  isplitl [H8]
  · iexists _; isplitr
    swap; · iexact H8
    ipureintro
    refine (read_setRow arg8.view f8 (off4_eq k) _ _).trans ?_
    rewrite [hf8]
    refine congrArg (fun w => setRow k.val w d8) ?_
    unfold w8 restAt
    dsimp only
    rewrite [hv]
    rfl
  isplitl [H9]
  · iexists _; isplitr
    swap; · iexact H9
    ipureintro; exact hf9
  iexists _; isplitr
  swap; · iexact HX
  ipureintro
  exact (congrArg (fun L => View.read (Elt F) arg10.view (arg10.view.writes (Elt F) fx L)) hL).trans hc

end Cert.RouteIdeal.Carry

end
-- ==== Proof.RouteScores.lean ====
module

public import proofs.«01_k».proof.Proof.RouteTrip

@[expose] public section

set_option maxRecDepth 16384

noncomputable section

namespace Cert.RouteIdeal.Carry

open Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The heads done before a trip -/

/-- The arrays with the heads before `n` written. -/
def fillMat (w : Fin k0_t1_loop.trips → Vec F S1x128x256 .f32) (n : ℕ) (d : Vec F S8x128x256 .f32) : Vec F S8x128x256 .f32 := fun x =>
  if (x 0).val < n then w ((x 0).cast trips_eq.symm) (ix3 0 (x 1) (x 2)) else d x
def fillRow (w : Fin k0_t1_loop.trips → Vec F S1x256 .f32) (n : ℕ) (d : Vec F S8x256 .f32) : Vec F S8x256 .f32 := fun x =>
  if (x 0).val < n then w ((x 0).cast trips_eq.symm) (ix2 0 (x 1)) else d x

/-- The arrays with every head written. -/
def allMat (w : Fin k0_t1_loop.trips → Vec F S1x128x256 .f32) : Vec F S8x128x256 .f32 := fun x => w ((x 0).cast trips_eq.symm) (ix3 0 (x 1) (x 2))
def allRow (w : Fin k0_t1_loop.trips → Vec F S1x256 .f32) : Vec F S8x256 .f32 := fun x => w ((x 0).cast trips_eq.symm) (ix2 0 (x 1))

omit [FloatOps F] in
theorem setMat_fill (w : Fin k0_t1_loop.trips → Vec F S1x128x256 .f32) (k : Fin k0_t1_loop.trips) (d : Vec F S8x128x256 .f32) :
    setMat k.val (w k) (fillMat w k.val d) = fillMat w (k.val + 1) d := by
  funext x
  unfold setMat fillMat
  by_cases h : (x 0).val = k.val
  · have e : (x 0).cast trips_eq.symm = k := Fin.ext h
    rw [if_pos h, if_pos (by omega), e]
  · rw [if_neg h]
    by_cases h' : (x 0).val < k.val
    · rw [if_pos h', if_pos (by omega)]
    · rw [if_neg h', if_neg (by omega)]

omit [FloatOps F] in
theorem setRow_fill (w : Fin k0_t1_loop.trips → Vec F S1x256 .f32) (k : Fin k0_t1_loop.trips) (d : Vec F S8x256 .f32) :
    setRow k.val (w k) (fillRow w k.val d) = fillRow w (k.val + 1) d := by
  funext x
  unfold setRow fillRow
  by_cases h : (x 0).val = k.val
  · have e : (x 0).cast trips_eq.symm = k := Fin.ext h
    rw [if_pos h, if_pos (by omega), e]
  · rw [if_neg h]
    by_cases h' : (x 0).val < k.val
    · rw [if_pos h', if_pos (by omega)]
    · rw [if_neg h', if_neg (by omega)]

omit [FloatOps F] in
theorem fillMat_all (w : Fin k0_t1_loop.trips → Vec F S1x128x256 .f32) (d : Vec F S8x128x256 .f32) : fillMat w k0_t1_loop.trips d = allMat w :=
  funext fun x => if_pos (Nat.lt_of_lt_of_eq (x 0).isLt trips_eq.symm)

omit [FloatOps F] in
theorem fillRow_all (w : Fin k0_t1_loop.trips → Vec F S1x256 .f32) (d : Vec F S8x256 .f32) : fillRow w k0_t1_loop.trips d = allRow w :=
  funext fun x => if_pos (Nat.lt_of_lt_of_eq (x 0).isLt trips_eq.symm)

omit [FloatOps F] in
theorem fillMat_zero (w : Fin k0_t1_loop.trips → Vec F S1x128x256 .f32) (d : Vec F S8x128x256 .f32) : fillMat w 0 d = d :=
  funext fun _ => if_neg (Nat.not_lt_zero _)

omit [FloatOps F] in
theorem fillRow_zero (w : Fin k0_t1_loop.trips → Vec F S1x256 .f32) (d : Vec F S8x256 .f32) : fillRow w 0 d = d :=
  funext fun _ => if_neg (Nat.not_lt_zero _)

/-! ## The scores -/

/-- The `n`-th set of keys. -/
def key (x2 : Vec F S16x128x128 .bf16) (n : ℕ) : Vec F S1x128x128 .bf16 := fun x => x2 (ix3 (Fin.ofNat 16 n) (x 1) (x 2))

omit [FloatOps F] in
theorem ld_key (x2 : Vec F S16x128x128 .bf16) (n : ℕ) (inb) :
    View.ld (Val := Elt F) (e' := .bf16) x2 (Rect.unit (s := S16x128x128) ![n, 0, 0] S1x128x128.size inb) = key x2 n := by
  have hn : n + 1 ≤ 16 := inb 0
  funext x
  refine congrArg x2 (funext fun a => Fin.ext ?_)
  match a with
  | ⟨0, _⟩ => have h0 : (x 0).val < 1 := (x 0).isLt
              show n + 1 * (x 0).val = n % 16; omega
  | ⟨1, _⟩ => show 0 + 1 * (x 1).val = (x 1).val; omega
  | ⟨2, _⟩ => show 0 + 1 * (x 2).val = (x 2).val; omega

/-- The 16 score matrices. -/
def groups (x0 : Vec F S256x2048 .bf16) (x1 : Vec F S2048x2048 .bf16) (x2 : Vec F S16x128x128 .bf16) : List (Vec F S1x128x256 .f32) :=
  [k0_pay132 x0 x1 (key x2 0), k0_pay133 x0 x1 (key x2 1), k0_pay134 x0 x1 (key x2 2), k0_pay135 (k0_pay131 x0 x1) (key x2 3),
    k0_pay136 (k0_pay131 x0 x1) (key x2 4), k0_pay137 (k0_pay131 x0 x1) (key x2 5), k0_pay138 (k0_pay131 x0 x1) (key x2 6),
    k0_pay139 (k0_pay131 x0 x1) (key x2 7), k0_pay140 (k0_pay131 x0 x1) (key x2 8), k0_pay141 (k0_pay131 x0 x1) (key x2 9),
    k0_pay142 (k0_pay131 x0 x1) (key x2 10), k0_pay143 (k0_pay131 x0 x1) (key x2 11), k0_pay144 (k0_pay131 x0 x1) (key x2 12),
    k0_pay145 (k0_pay131 x0 x1) (key x2 13), k0_pay146 (k0_pay131 x0 x1) (key x2 14), k0_pay1 (k0_pay131 x0 x1) (key x2 15)]

def group (x0 : Vec F S256x2048 .bf16) (x1 : Vec F S2048x2048 .bf16) (x2 : Vec F S16x128x128 .bf16) (n : ℕ) : Vec F S1x128x256 .f32 :=
  (groups x0 x1 x2).getD n (k0_pay132 x0 x1 (key x2 0))

def scores (x0 : Vec F S256x2048 .bf16) (x1 : Vec F S2048x2048 .bf16) (x2 : Vec F S16x128x128 .bf16) : Vec F S16x128x256 .f32 := fun x =>
  group x0 x1 x2 (x 0).val (ix3 0 (x 1) (x 2))

section
variable {κ : Kind} {sp : Space}

theorem mat_inb (n : ℕ) (h : n < 16) : ∀ a, (![n, 0, 0] : Fin 3 → Nat) a + S1x128x256.size a ≤ S16x128x256.size a := fun a =>
  match a with
  | ⟨0, _⟩ => show n + 1 ≤ 16 by omega
  | ⟨1, _⟩ => show 0 + 128 ≤ 128 by omega
  | ⟨2, _⟩ => show 0 + 256 ≤ 256 by omega

/-- The stores of the first `n` matrices, the last one first. -/
def matStores (r : ℕ → Vec F S1x128x256 .f32) : (n : ℕ) → n ≤ 16 → List (View.Piece (Elt F) S16x128x256 .f32)
  | 0, _ => []
  | n + 1, h => ⟨Rect.unit (s := S16x128x256) ![n, 0, 0] S1x128x256.size (mat_inb n h), r n⟩ :: matStores r n (Nat.le_of_lt h)

omit [FloatOps F] in
theorem read_matStores (v : View sig κ sp S16x128x256 .f32) (f : v.ty.Contents (Elt F)) (r : ℕ → Vec F S1x128x256 .f32) (n : ℕ) (hn : n ≤ 16)
    (x : S16x128x256.Idx) (hx : (x 0).val < n) :
    v.read (Elt F) (v.writes (Elt F) f (matStores r n hn)) x = r (x 0).val (ix3 0 (x 1) (x 2)) := by
  induction n with
  | zero => exact absurd hx (Nat.not_lt_zero _)
  | succ n ih =>
    by_cases h : (x 0).val = n
    · refine (View.read_writes_cons_unit_of_mem v f (mat_inb n hn) (r n) (matStores r n (Nat.le_of_lt hn)) x (ix3 0 (x 1) (x 2)) rfl fun a => ?_).trans (by rw [h])
      match a with
      | ⟨0, _⟩ => show (x 0).val = n + 0; omega
      | ⟨1, _⟩ => show (x 1).val = 0 + (x 1).val; omega
      | ⟨2, _⟩ => show (x 2).val = 0 + (x 2).val; omega
    · refine (View.read_writes_cons_unit_of_not_mem v f (mat_inb n hn) (r n) (matStores r n (Nat.le_of_lt hn)) x rfl 0 ?_).trans (ih _ (by omega))
      show (x 0).val < n ∨ n + 1 ≤ (x 0).val
      omega
end

/-! ## The body -/

def results (c : Dev nD) (arg4 arg5 arg6 arg7 : Memref sig .tc .vmem S8x128x256 .f32) (arg8 : Memref sig .tc .vmem S8x256 .f32)
    (arg9 : Memref sig .tc .vmem S16x128x256 .f32) (arg10 : Memref sig .tc .vmem S56x256 .f32)
    (s : Vec F S16x128x256 .f32) (d4 d5 d6 d7 : Vec F S8x128x256 .f32) (d8 : Vec F S8x256 .f32) (n : ℕ) : sProp 𝕄 :=
  iprop(owns (c : Thread nD τ) arg4 fullShare (fillMat (w4 s) n d4) ∗ owns (c : Thread nD τ) arg5 fullShare (fillMat (w5 s) n d5)
    ∗ owns (c : Thread nD τ) arg6 fullShare (fillMat (w6 s) n d6) ∗ owns (c : Thread nD τ) arg7 fullShare (fillMat (w7 s) n d7)
    ∗ owns (c : Thread nD τ) arg8 fullShare (fillRow (w8 s) n d8) ∗ owns (c : Thread nD τ) arg9 fullShare s
    ∗ (∃ d10, ⌜∀ x : S56x256.Idx, 50 ≤ (x 0).val → d10 x = k0_pay2 (F := F) x⌝ ∗ owns (c : Thread nD τ) arg10 fullShare d10))

theorem trip_step (c : Dev nD) (i : grid0.Coords)
    (arg1 : Memref sig .tc .vmem S256x2048 .bf16) (harg1 : arg1.IsWhole) (arg2 : Memref sig .tc .vmem S2048x2048 .bf16) (harg2 : arg2.IsWhole)
    (arg3 : Memref sig .tc .vmem S16x128x128 .bf16) (harg3 : arg3.IsWhole)
    (arg4 : Memref sig .tc .vmem S8x128x256 .f32) (harg4 : arg4.IsWhole) (arg5 : Memref sig .tc .vmem S8x128x256 .f32) (harg5 : arg5.IsWhole)
    (arg6 : Memref sig .tc .vmem S8x128x256 .f32) (harg6 : arg6.IsWhole) (arg7 : Memref sig .tc .vmem S8x128x256 .f32) (harg7 : arg7.IsWhole)
    (arg8 : Memref sig .tc .vmem S8x256 .f32) (harg8 : arg8.IsWhole) (arg9 : Memref sig .tc .vmem S16x128x256 .f32) (harg9 : arg9.IsWhole)
    (arg10 : Memref sig .tc .vmem S56x256 .f32) (harg10 : arg10.IsWhole)
    (s : Vec F S16x128x256 .f32) (d4 d5 d6 d7 : Vec F S8x128x256 .f32) (d8 : Vec F S8x256 .f32)
    (k : Fin k0_t1_loop.trips) (acc : PUnit) (E : Set ℕ) :
    results c arg4 arg5 arg6 arg7 arg8 arg9 arg10 s d4 d5 d6 d7 d8 k.val
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 k acc)
        (fun _ => results c arg4 arg5 arg6 arg7 arg8 arg9 arg10 s d4 d5 d6 d7 d8 (k.val + 1)) := by
  unfold results
  iintro ⟨H4, H5, H6, H7, H8, H9, ⟨%d10, %hd, HX⟩⟩
  iapply (trip_run c i arg1 harg1 arg2 harg2 arg3 harg3 arg4 harg4 arg5 harg5 arg6 harg6 arg7 harg7 arg8 harg8 arg9 harg9 arg10 harg10 s _ _ _ _ _ d10 k hd E _)
  isplitl [H4]; · iexact H4
  isplitl [H5]; · iexact H5
  isplitl [H6]; · iexact H6
  isplitl [H7]; · iexact H7
  isplitl [H8]; · iexact H8
  isplitl [H9]; · iexact H9
  isplitl [HX]; · iexact HX
  rw [setMat_fill, setMat_fill, setMat_fill, setMat_fill, setRow_fill]
  iintro ⟨H4, H5, H6, H7, H8, H9, HX⟩
  isplitl [H4]; · iexact H4
  isplitl [H5]; · iexact H5
  isplitl [H6]; · iexact H6
  isplitl [H7]; · iexact H7
  isplitl [H8]; · iexact H8
  isplitl [H9]; · iexact H9
  iexists _; isplitr
  swap; · iexact HX
  ipureintro
  intro x hx
  unfold candAt cand
  exact if_neg (by omega)

end Cert.RouteIdeal.Carry

end
-- ==== Proof.RouteBody.lean ====
module

public import proofs.«01_k».proof.Proof.RouteScores

@[expose] public section

set_option maxRecDepth 16384

noncomputable section

namespace Cert.RouteIdeal.Carry

open Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option maxRecDepth 65536 in
theorem body_run (c : Dev nD) (i : grid0.Coords)
    (arg1 : Memref sig .tc .vmem S256x2048 .bf16) (harg1 : arg1.IsWhole) (arg2 : Memref sig .tc .vmem S2048x2048 .bf16) (harg2 : arg2.IsWhole)
    (arg3 : Memref sig .tc .vmem S16x128x128 .bf16) (harg3 : arg3.IsWhole)
    (arg4 : Memref sig .tc .vmem S8x128x256 .f32) (harg4 : arg4.IsWhole) (arg5 : Memref sig .tc .vmem S8x128x256 .f32) (harg5 : arg5.IsWhole)
    (arg6 : Memref sig .tc .vmem S8x128x256 .f32) (harg6 : arg6.IsWhole) (arg7 : Memref sig .tc .vmem S8x128x256 .f32) (harg7 : arg7.IsWhole)
    (arg8 : Memref sig .tc .vmem S8x256 .f32) (harg8 : arg8.IsWhole) (arg9 : Memref sig .tc .vmem S16x128x256 .f32) (harg9 : arg9.IsWhole)
    (arg10 : Memref sig .tc .vmem S56x256 .f32) (harg10 : arg10.IsWhole)
    (x0 : Vec F S256x2048 .bf16) (x1 : Vec F S2048x2048 .bf16) (x2 : Vec F S16x128x128 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (allMat (w4 (scores x0 x1 x2))) ∗ owns (c : Thread nD τ) arg5 fullShare (allMat (w5 (scores x0 x1 x2)))
            ∗ owns (c : Thread nD τ) arg6 fullShare (allMat (w6 (scores x0 x1 x2))) ∗ owns (c : Thread nD τ) arg7 fullShare (allMat (w7 (scores x0 x1 x2)))
            ∗ owns (c : Thread nD τ) arg8 fullShare (allRow (w8 (scores x0 x1 x2)))
            ∗ (∃ d, owns (c : Thread nD τ) arg9 fullShare d) ∗ (∃ d, owns (c : Thread nD τ) arg10 fullShare d)) -∗ K ⟨⟩))
      ⊢ wp frame (wpE (defs₀ (F := F)) Variants.none c none) E (cc0_peer_route i arg1 harg1 arg2 harg2 arg3 harg3 arg4 harg4 arg5 harg5 arg6 harg6 arg7 harg7 arg8 harg8 arg9 harg9 arg10 harg10) K := by
  simp only [cc0_peer_route_eq_skeleton]; unfold cc0_peer_route_skel
  simp only [k0_part14_eq_skeleton, k0_part15_eq_skeleton, k0_part16_eq_skeleton, k0_part17_eq_skeleton]
  unfold k0_part14_skel k0_part15_skel k0_part16_skel k0_part17_skel
  iintro ⟨H1, H2, H3, ⟨%d4, H4⟩, ⟨%d5, H5⟩, ⟨%d6, H6⟩, ⟨%d7, H7⟩, ⟨%d8, H8⟩, ⟨%d9, H9⟩, ⟨%dx, HX⟩, Hk⟩
  unfold owns
  icases H1 with ⟨%f1, %hf1, H1⟩
  icases H2 with ⟨%f2, %hf2, H2⟩
  icases H3 with ⟨%f3, %hf3, H3⟩
  icases H9 with ⟨%f9, -, H9⟩
  icases HX with ⟨%fx, -, HX⟩
  have l1 : View.readAt (Elt F) arg1.view (Rect.unit ![0, 0] S256x2048.size inb_S256x2048_S256x2048_0_0).toLoadRect f1 = x0 :=
    (View.readAt_full _ _ _).trans hf1
  have l2 : View.readAt (Elt F) arg2.view (Rect.unit ![0, 0] S2048x2048.size inb_S2048x2048_S2048x2048_0_0).toLoadRect f2 = x1 :=
    (View.readAt_full _ _ _).trans hf2
  have l3 : ∀ n inb, View.readAt (Elt F) arg3.view (Rect.unit (s := S16x128x128) ![n, 0, 0] S1x128x128.size inb).toLoadRect f3 = key x2 n := fun n inb =>
    (View.readAt_eq_ld _ _ _).trans ((congrArg (fun z => View.ld (Val := Elt F) (e' := .bf16) z _) hf3).trans (ld_key x2 n inb))
  sl_exec
  have hL : body_run.sl.H9_16 x0 x1 x2 = matStores (group x0 x1 x2) 16 (by decide) := by
    sl_unfold_words
    simp only [matStores, group, groups, List.getD_cons_succ, List.getD_cons_zero]
    repeat refine congrArg₂ List.cons ?_ ?_
    all_goals rfl
  have hs : View.read (Elt F) arg9.view (arg9.view.writes (Elt F) arg9.view.junk (body_run.sl.H9_16 x0 x1 x2)) = scores x0 x1 x2 := by
    rw [hL]
    funext x
    exact read_matStores _ _ _ 16 _ x (x 0).isLt
  have hx : View.read (Elt F) arg10.view (arg10.view.writes (Elt F) arg10.view.junk body_run.sl.HX_1) = k0_pay2 (F := F) := by
    sl_unfold_words
    exact View.read_writes_full (s := S56x256) _ _ _ _ _
  rw [wp_bind]
  iapply (Scf.wp_for frame (wpE (defs₀ (F := F)) Variants.none (c : Thread nD τ) none) E k0_t1_loop.lb k0_t1_loop.ub k0_t1_loop.st k0_t1_ok PUnit.unit _
      (fun n _ => results c arg4 arg5 arg6 arg7 arg8 arg9 arg10 (scores x0 x1 x2) d4 d5 d6 d7 d8 n)
      (fun k acc => trip_step c i arg1 harg1 arg2 harg2 arg3 harg3 arg4 harg4 arg5 harg5 arg6 harg6 arg7 harg7 arg8 harg8 arg9 harg9 arg10 harg10
        (scores x0 x1 x2) d4 d5 d6 d7 d8 k acc E))
  isplitl [H4 H5 H6 H7 H8 H9 HX]
  · unfold results
    simp only [fillMat_zero, fillRow_zero]
    unfold owns
    isplitl [H4]; · iexact H4
    isplitl [H5]; · iexact H5
    isplitl [H6]; · iexact H6
    isplitl [H7]; · iexact H7
    isplitl [H8]; · iexact H8
    isplitl [H9]
    · iexists _; isplitr
      swap; · iexact H9
      ipureintro; exact hs
    iexists (k0_pay2 (F := F)); isplitr
    · ipureintro; exact fun _ _ => rfl
    iexists _; isplitr
    swap; · iexact HX
    ipureintro; exact hx
  iintro %_ HI
  unfold results
  rw [show Scf.trips k0_t1_loop.lb k0_t1_loop.ub k0_t1_loop.st = k0_t1_loop.trips from rfl]
  simp only [fillMat_all, fillRow_all]
  icases HI with ⟨H4, H5, H6, H7, H8, H9, ⟨%d10, -, HX⟩⟩
  sl_step
  unfold owns
  iapply Hk
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]; · iexact H4
  isplitl [H5]; · iexact H5
  isplitl [H6]; · iexact H6
  isplitl [H7]; · iexact H7
  isplitl [H8]; · iexact H8
  isplitl [H9]; · iexists _; iexact H9
  iexists _; iexact HX

end Cert.RouteIdeal.Carry

end
-- ==== Proof.RouteRun.lean ====
module

public import proofs.«01_k».proof.Proof.RouteBody
public import Idealize.ShloMosaic.Lib.Claim

@[expose] public section

set_option maxRecDepth 16384

noncomputable section

namespace Cert.RouteIdeal.Carry

open Cert.RouteIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scores at point `t`. -/
def scoresAt (c : Dev nD) (t : Fin cfg0.N) : Vec F S16x128x256 .f32 := scores (iblk m c 0 t) (iblk m c 1 t) (iblk m c 2 t)

abbrev sc0 : Memref sig .tc .vmem S16x128x256 .f32 := Memref.whole cc0_scratch0
abbrev sc1 : Memref sig .tc .vmem S56x256 .f32 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => allMat (w4 (scoresAt m c t))
    | ⟨4, _⟩ => allMat (w5 (scoresAt m c t))
    | ⟨5, _⟩ => allMat (w6 (scoresAt m c t))
    | ⟨6, _⟩ => allMat (w7 (scoresAt m c t))
    | ⟨7, _⟩ => allRow (w8 (scoresAt m c t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = allMat (w4 (scoresAt m c t)) := by dsimp only [dats]
theorem after0_4 (c : Dev nD) (t : Fin cfg0.N) : (dats m 0 c).after 4 t = allMat (w5 (scoresAt m c t)) := by dsimp only [dats]
theorem after0_5 (c : Dev nD) (t : Fin cfg0.N) : (dats m 0 c).after 5 t = allMat (w6 (scoresAt m c t)) := by dsimp only [dats]
theorem after0_6 (c : Dev nD) (t : Fin cfg0.N) : (dats m 0 c).after 6 t = allMat (w7 (scoresAt m c t)) := by dsimp only [dats]
theorem after0_7 (c : Dev nD) (t : Fin cfg0.N) : (dats m 0 c).after 7 t = allRow (w8 (scoresAt m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, PhiA_eq]
  unfold scoresAt
  iintro ⟨⟨⟨Hs, Hx⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [Hs]; · iexact Hs
  isplitl [Hx]; · iexact Hx
  iintro ⟨H0, H1, H2, H3, H4, H5, H6, H7, Hs, Hx⟩
  isplitl [Hs Hx Hg]
  · isplitl [Hs Hx]
    · isplitl [Hs]; · iexact Hs
      iexact Hx
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array ends at what the proof data gives it, and every semaphore counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.RouteIdeal.Carry

end
-- ==== Proof.RouteFrame.lean ====
module

public import proofs.«01_k».proof.Proof.RouteRun
public import proofs.«01_k».proof.Proof.Gen.Route.Frame

@[expose] public section

set_option maxRecDepth 16384

noncomputable section

namespace Cert.Route.Carry

open Cert.Route Cert.Route.Gen
open Idealize.ShloMosaic Idealize.ShloMosaic.TcCoe
open Idealize.SL.Sem

variable {F : FTy → Type} [FloatOps F]

theorem defs₀_eq : Cert.Route.defs₀ (F := F) = Cert.RouteIdeal.defs₀ (F := F) := by
  unfold Cert.Route.defs₀ Cert.RouteIdeal.defs₀
  refine congrArg Defs.onTc (funext fun l => ?_)
  match l with
  | ⟨0, _⟩ => rfl
  | ⟨_ + 1, h⟩ => exact absurd h (Nat.not_lt.2 (Nat.le_add_left _ _))

theorem defs_eq : Cert.Route.defs (F := F) = Cert.RouteIdeal.defs (F := F) :=
  congrArg (Pipeline.defs Cert.RouteIdeal.pcfgs) defs₀_eq

/-- The compiled program is the ideal one's text, so its frame is the same statement. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have e := defs_eq (F := F)
  have h := Cert.RouteIdeal.Carry.frame (F := F) m ρ
  rw [← e] at h
  exact h

end Cert.Route.Carry

end
-- ==== Proof.RouteVal.lean ====
module

public import proofs.«01_k».proof.Proof.RouteRun
public import Idealize.ShloMosaic.Lib.Pipeline.ValueKit
public import Idealize.ShloMosaic.Lib.Pipeline.ValueKit.Geometry

@[expose] public section

set_option maxRecDepth 16384

noncomputable section

namespace Cert.RouteIdeal.Calc

open Idealize.ShloMosaic Idealize.ShloMosaic.TcCoe Idealize.SL.Sem
open Idealize.ShloMosaic.Pipeline (Dat)
open Cert.RouteIdeal Cert.RouteIdeal.Gen Cert.RouteIdeal.Carry

/-! ## The payloads -/

theorem query_apply (x : FVec Ideal S256x2048 .bf16) (w : FVec Ideal S2048x2048 .bf16) (t : Fin 256) (d : Fin 2048) :
    k0_pay131 (F := Ideal) x w (ix2 t d) = ∑ k : Fin 2048, x (ix2 t k) * w (ix2 k d) := by
  pointwise [k0_pay131]

/-- One set of keys times 128 columns of the queries. -/
theorem mat_apply (v : FVec Ideal S256x2048 .bf16) (y : FVec Ideal S1x128x128 .bf16) (o : ℕ) (ho : o + 128 ≤ 2048)
    (hs : S256x2048.Slices ![0, o] S256x128) (n : Fin 128) (t : Fin 256) :
    (shapeCast S1x128x256 (matmul dot_S128x128_S256x128_S128x256_1_1_0_0_n_n none (shapeCast S128x128 y shapeCasts_S1x128x128_S128x128 : FVec Ideal S128x128 .bf16)
      (extractStridedSlice S256x128 ![0, o] v hs : FVec Ideal S256x128 .bf16) (constant S128x256 .f32 0x00000000#32) : FVec Ideal S128x256 .f32)
      shapeCasts_S128x256_S1x128x256 : FVec Ideal S1x128x256 .f32) (ix3 0 n t)
      = ∑ d : Fin 128, y (ix3 0 n d) * v (ix2 t ⟨o + d.val, by omega⟩) := by
  pointwise []

theorem part_apply (s : FVec Ideal S16x128x256 .f32) (j : Fin 16) (n : Fin 128) (t : Fin 256) :
    k0_pay127 (F := Ideal) (k0_pay4 (part j s)) (ix3 0 n t) = s (ix3 j n t) := by
  pointwise [k0_pay127, k0_pay4, part]

theorem part_apply' (s : FVec Ideal S16x128x256 .f32) (j : Fin 16) (n : Fin 128) (t : Fin 256) :
    k0_pay129 (F := Ideal) (k0_pay5 (part j s)) (ix3 0 n t) = s (ix3 j n t) := by
  pointwise [k0_pay129, k0_pay5, part]

theorem exp_apply (s : FVec Ideal S16x128x256 .f32) (j : Fin 16) (n : Fin 128) (t : Fin 256) :
    k0_pay128 (F := Ideal) (k0_pay4 (part j s)) (k0_pay6 (part j s)) (ix3 0 n t)
      = Ideal.exp (s (ix3 j n t) - Finset.fold max (Ideal.ofBits FTy.f32 0xFF800000#32) (fun x => s (ix3 j x t)) Finset.univ) := by
  pointwise [k0_pay128, k0_pay4, k0_pay6, part]

theorem group_apply (x : FVec Ideal S256x2048 .bf16) (w : FVec Ideal S2048x2048 .bf16) (y : FVec Ideal S16x128x128 .bf16)
    (g : Fin 16) (n : Fin 128) (t : Fin 256) :
    group (F := Ideal) x w y g.val (ix3 0 n t)
      = ∑ d : Fin 128, y (ix3 g n d) * k0_pay131 (F := Ideal) x w (ix2 t ⟨128 * g.val + d.val, by omega⟩) := by
  fin_cases g
  all_goals exact mat_apply (k0_pay131 (F := Ideal) x w) (key (F := Ideal) y _) _ (by decide) _ n t

/-! ## The routing's values -/

/-- Token `t`'s queries. -/
def query (x : FVec Ideal S32768x2048 .bf16) (w : FVec Ideal S1x2048x2048 .f32) (t : Fin 32768) (d : Fin 2048) : EReal :=
  ∑ k : Fin 2048, x (ix2 t k) * w (ix3 0 k d)

/-- Token `t`'s score at key `n` of head `h`'s half `e`. -/
def score (x : FVec Ideal S32768x2048 .bf16) (w : FVec Ideal S1x2048x2048 .f32) (y : FVec Ideal S1x8x2x128x128 .f32)
    (h : Fin 8) (e : Fin 2) (n : Fin 128) (t : Fin 32768) : EReal :=
  ∑ d : Fin 128, y (ix5 0 h e n d) * query x w t ⟨(2 * h.val + e.val) * 128 + d.val, by omega⟩

/-- The largest score of a head's first half. -/
def peak (x : FVec Ideal S32768x2048 .bf16) (w : FVec Ideal S1x2048x2048 .f32) (y : FVec Ideal S1x8x2x128x128 .f32) (h : Fin 8) (t : Fin 32768) : EReal :=
  Finset.fold max (Ideal.ofBits FTy.f32 0xFF800000#32) (fun n => score x w y h 0 n t) Finset.univ

/-- The three results. -/
def res0 (x : FVec Ideal S32768x2048 .bf16) (w : FVec Ideal S1x2048x2048 .f32) (y : FVec Ideal S1x8x2x128x128 .f32) : FVec Ideal S8x128x32768 .f32 :=
  fun i => score x w y (i 0) 0 (i 1) (i 2)
def res1 (x : FVec Ideal S32768x2048 .bf16) (w : FVec Ideal S1x2048x2048 .f32) (y : FVec Ideal S1x8x2x128x128 .f32) : FVec Ideal S8x128x32768 .f32 :=
  fun i => Ideal.exp (score x w y (i 0) 0 (i 1) (i 2) - peak x w y (i 0) (i 2))
def res2 (x : FVec Ideal S32768x2048 .bf16) (w : FVec Ideal S1x2048x2048 .f32) (y : FVec Ideal S1x8x2x128x128 .f32) : FVec Ideal S8x128x32768 .f32 :=
  fun i => score x w y (i 0) 1 (i 1) (i 2)

/-! ## The blocks -/

theorem idx : ∀ t : Fin cfg0.N,
    win0_0.index t = ![t.val, 0] ∧ win0_1.index t = ![0, 0] ∧ win0_2.index t = ![0, 0, 0] ∧ win0_3.index t = ![0, 0, t.val]
      ∧ win0_4.index t = ![0, 0, t.val] ∧ win0_5.index t = ![0, 0, t.val] :=
  (by decide +kernel : ∀ t : Fin grid0.N, _)

/-- The keys, as the host lays them out for the kernel. -/
def keysOf (y : FVec Ideal S1x8x2x128x128 .f32) : FVec Ideal S16x128x128 .bf16 :=
  truncf .bf16 (shapeCast S16x128x128 (shapeCast S8x2x128x128 y shapeCasts_S1x8x2x128x128_S8x2x128x128 : FVec Ideal S8x2x128x128 .f32)
    shapeCasts_S8x2x128x128_S16x128x128 : FVec Ideal S16x128x128 .f32) bitsLt_bf16_f32

theorem keysOf_apply (y : FVec Ideal S1x8x2x128x128 .f32) (g : Fin 16) (n d : Fin 128) :
    keysOf y (ix3 g n d) = y (ix5 0 ⟨g.val / 2, by omega⟩ ⟨g.val % 2, by omega⟩ n d) := by
  have e1 : ∀ z : FVec Ideal S8x2x128x128 .f32, (shapeCast S16x128x128 z shapeCasts_S8x2x128x128_S16x128x128 : FVec Ideal S16x128x128 .f32) (ix3 g n d)
      = z (ix4 ⟨g.val / 2, by omega⟩ ⟨g.val % 2, by omega⟩ n d) := fun z =>
    shapeCast_apply z shapeCasts_S8x2x128x128_S16x128x128 _ _ (by
      rw [Shape.rowMajor_val_three, Shape.rowMajor_val_four]
      show ((g.val / 2 * 2 + g.val % 2) * 128 + n.val) * 128 + d.val = (g.val * 128 + n.val) * 128 + d.val
      omega)
  have e2 : (shapeCast S8x2x128x128 y shapeCasts_S1x8x2x128x128_S8x2x128x128 : FVec Ideal S8x2x128x128 .f32) (ix4 ⟨g.val / 2, by omega⟩ ⟨g.val % 2, by omega⟩ n d)
      = y (ix5 0 ⟨g.val / 2, by omega⟩ ⟨g.val % 2, by omega⟩ n d) :=
    shapeCast_apply y shapeCasts_S1x8x2x128x128_S8x2x128x128 _ _ (by
      rw [Shape.rowMajor_val_five, Shape.rowMajor_val_four]
      show (((0 * 8 + g.val / 2) * 2 + g.val % 2) * 128 + n.val) * 128 + d.val = ((g.val / 2 * 2 + g.val % 2) * 128 + n.val) * 128 + d.val
      omega)
  have e0 : ∀ (z : FVec Ideal S16x128x128 .f32) (i : S16x128x128.Idx), (truncf .bf16 z bitsLt_bf16_f32 : FVec Ideal S16x128x128 .bf16) i = z i := fun _ _ => rfl
  unfold keysOf
  rw [e0, e1, e2]

/-- The query weights, likewise. -/
def weightOf (w : FVec Ideal S1x2048x2048 .f32) : FVec Ideal S2048x2048 .bf16 :=
  truncf .bf16 (shapeCast S2048x2048 w shapeCasts_S1x2048x2048_S2048x2048 : FVec Ideal S2048x2048 .f32) bitsLt_bf16_f32

theorem weightOf_apply (w : FVec Ideal S1x2048x2048 .f32) (k d : Fin 2048) : weightOf w (ix2 k d) = w (ix3 0 k d) := by
  pointwise [weightOf]

variable (m : (ℓ : Loc nD τ sig) → Buf (Elt Ideal) ℓ) (c : Dev nD)

abbrev tok : FVec Ideal S32768x2048 .bf16 := m ((c : Thread nD τ).loc main_arg0)
abbrev wq : FVec Ideal S1x2048x2048 .f32 := m ((c : Thread nD τ).loc main_arg1)
abbrev ks : FVec Ideal S1x8x2x128x128 .f32 := m ((c : Thread nD τ).loc main_arg2)

theorem V_main_v2 : (V m c main_v2 : FVec Ideal S16x128x128 .bf16) = keysOf (ks m c) := by
  show StableHlo.after hostOps0 _ (Proc.devRef .tc main_v2) = _
  after_results
  rfl

theorem V_main_v4 : (V m c main_v4 : FVec Ideal S2048x2048 .bf16) = weightOf (wq m c) := by
  show StableHlo.after hostOps0 _ (Proc.devRef .tc main_v4) = _
  after_results
  rfl

theorem lt_N (t : Fin cfg0.N) : t.val < 128 := lt_of_lt_of_eq t.isLt (show cfg0.N = 128 from N_0)

theorem blk0 (t : Fin cfg0.N) (r : Fin 256) (l : Fin 2048) :
    (iblk m c 0 t : FVec Ideal S256x2048 .bf16) (ix2 r l) = tok m c (ix2 ⟨256 * t.val + r.val, by have := lt_N t; omega⟩ l) := by
  have ht := lt_N t
  refine Eq.trans ?_ (congrFun (V_main_arg0 m c) (ix2 ⟨256 * t.val + r.val, by omega⟩ l))
  blk_simp [iblk]
  congr 1
  blk_ext [(idx t).1]

theorem blk1 (t : Fin cfg0.N) (k d : Fin 2048) : (iblk m c 1 t : FVec Ideal S2048x2048 .bf16) (ix2 k d) = wq m c (ix3 0 k d) := by
  refine Eq.trans ?_ ((congrFun (V_main_v4 m c) (ix2 k d)).trans (weightOf_apply _ k d))
  blk_simp [iblk]
  congr 1
  blk_ext [(idx t).2.1]

theorem blk2 (t : Fin cfg0.N) (g : Fin 16) (n d : Fin 128) :
    (iblk m c 2 t : FVec Ideal S16x128x128 .bf16) (ix3 g n d) = ks m c (ix5 0 ⟨g.val / 2, by omega⟩ ⟨g.val % 2, by omega⟩ n d) := by
  refine Eq.trans ?_ ((congrFun (V_main_v2 m c) (ix3 g n d)).trans (keysOf_apply _ g n d))
  blk_simp [iblk]
  congr 1
  blk_ext [(idx t).2.2.1]

/-- The scores at a point: head `h`'s half `e` is group `2 h + e`. -/
theorem scores_apply (t : Fin cfg0.N) (g : Fin 16) (h : Fin 8) (e : Fin 2) (hg : g.val = 2 * h.val + e.val) (n : Fin 128) (r : Fin 256) :
    scoresAt (F := Ideal) m c t (ix3 g n r) = score (tok m c) (wq m c) (ks m c) h e n ⟨256 * t.val + r.val, by have := lt_N t; omega⟩ := by
  refine (group_apply (iblk m c 0 t) (iblk m c 1 t) (iblk m c 2 t) g n r).trans ?_
  unfold score query
  refine Finset.sum_congr rfl fun d _ => congrArg₂ (· * ·) ?_ ?_
  · rw [blk2]
    congr 2
    · exact Fin.ext (by show g.val / 2 = h.val; omega)
    · exact Fin.ext (by show g.val % 2 = e.val; omega)
  · rw [query_apply]
    refine Finset.sum_congr rfl fun k _ => ?_
    rw [blk0, blk1]
    congr 3
    exact Fin.ext (by show 128 * g.val + d.val = (2 * h.val + e.val) * 128 + d.val; omega)

theorem mat_idx (y : S8x128x256.Idx) : ∃ (h : Fin 8) (n : Fin 128) (r : Fin 256), y = ix3 h n r :=
  ⟨y 0, y 1, y 2, by funext a; match a with | ⟨0, _⟩ => rfl | ⟨1, _⟩ => rfl | ⟨2, _⟩ => rfl⟩

/-! ## The result arrays -/

theorem arr0 : (dats m 0 c).arrAt 3 cfg0.N = res0 (tok m c) (wq m c) (ks m c) := by
  refine (dats m 0 c).arrAt_eq_of_covers 3 _ (by decide +kernel) fun t hf y => ?_
  blk_simp
  rw [after0_3]
  obtain ⟨h, n, r, rfl⟩ := mat_idx y
  have ht := lt_N t
  refine (part_apply (scoresAt (F := Ideal) m c t) (lo (h.cast trips_eq.symm)) n r).trans ?_
  rw [scores_apply m c t _ h 0 rfl]
  have e : (win0_3.blk t).view.emb (ix3 h n r) = ix3 h n ⟨256 * t.val + r.val, by omega⟩ := by
    blk_ext [(idx t).2.2.2.1]
  rw [e]
  rfl

theorem arr1 : (dats m 0 c).arrAt 4 cfg0.N = res1 (tok m c) (wq m c) (ks m c) := by
  refine (dats m 0 c).arrAt_eq_of_covers 4 _ (by decide +kernel) fun t hf y => ?_
  blk_simp
  rw [after0_4]
  obtain ⟨h, n, r, rfl⟩ := mat_idx y
  have ht := lt_N t
  refine (exp_apply (scoresAt (F := Ideal) m c t) (lo (h.cast trips_eq.symm)) n r).trans ?_
  simp only [scores_apply m c t (lo (h.cast trips_eq.symm)) h 0 rfl]
  have e : (win0_4.blk t).view.emb (ix3 h n r) = ix3 h n ⟨256 * t.val + r.val, by omega⟩ := by
    blk_ext [(idx t).2.2.2.2.1]
  rw [e]
  rfl

theorem arr2 : (dats m 0 c).arrAt 5 cfg0.N = res2 (tok m c) (wq m c) (ks m c) := by
  refine (dats m 0 c).arrAt_eq_of_covers 5 _ (by decide +kernel) fun t hf y => ?_
  blk_simp
  rw [after0_5]
  obtain ⟨h, n, r, rfl⟩ := mat_idx y
  have ht := lt_N t
  refine (part_apply' (scoresAt (F := Ideal) m c t) (hi (h.cast trips_eq.symm)) n r).trans ?_
  rw [scores_apply m c t _ h 1 rfl]
  have e : (win0_5.blk t).view.emb (ix3 h n r) = ix3 h n ⟨256 * t.val + r.val, by omega⟩ := by
    blk_ext [(idx t).2.2.2.2.2]
  rw [e]
  rfl

/-- The run: the three results, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v5_0) = res0 (tok m c) (wq m c) (ks m c)
      ∧ r.2.mem ((c : Thread nD τ).loc main_v5_1) = res1 (tok m c) (wq m c) (ks m c)
      ∧ r.2.mem ((c : Thread nD τ).loc main_v5_2) = res2 (tok m c) (wq m c) (ks m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (arr0 m c), ((h c).1 4).trans (arr1 m c), ((h c).1 5).trans (arr2 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.RouteIdeal.Calc

end
-- ==== Proof.RouteRefVal.lean ====
module

public import proofs.«01_k».proof.Proof.Gen.RouteRefIdeal.Read
public import proofs.«01_k».proof.Proof.Gen.RouteRefIdeal.Run
public import proofs.«01_k».proof.Proof.RouteVal
public import Idealize.ShloMosaic.Lib.KernelVsHost
public import Idealize.ShloMosaic.Lib.Pointwise

@[expose] public section

noncomputable section

namespace Cert.RouteRefIdeal.Calc

open Idealize.ShloMosaic Idealize.ShloMosaic.TcCoe
open Cert.RouteRefIdeal Cert.RouteRefIdeal.Gen Cert.RouteRefIdeal.Read
open Cert.RouteIdeal.Calc (query score peak res0 res1 res2)

variable (x : FVec Ideal S32768x2048 .bf16) (w : FVec Ideal S1x2048x2048 .f32) (y : FVec Ideal S1x8x2x128x128 .f32)

theorem v1_eq (k d : Fin 2048) : val_main_v1 (F := Ideal) w (ix2 k d) = w (ix3 0 k d) := by
  rw [val_main_v1_apply]
  refine congrArg w (funext fun b => Fin.ext ?_)
  match b with
  | ⟨0, _⟩ => rfl
  | ⟨1, _⟩ => show (k.val * 2048 + d.val) / 2048 % 2048 = k.val; omega
  | ⟨2, _⟩ => show (k.val * 2048 + d.val) % 2048 = d.val; omega

theorem v2_eq (t : Fin 32768) (d : Fin 2048) : val_main_v2 (F := Ideal) x w (ix2 t d) = query x w t d := by
  rw [val_main_v2_apply]
  refine Finset.sum_congr rfl fun k _ => ?_
  have el : lidx_main_v2 (ix2 t d) k = ix2 t k := funext fun a => by match a with | ⟨0, _⟩ => rfl | ⟨1, _⟩ => rfl
  have er : ridx_main_v2 (ix2 t d) k = ix2 k d := funext fun a => by match a with | ⟨0, _⟩ => rfl | ⟨1, _⟩ => rfl
  rw [el, er, v1_eq]
  rfl

theorem v3_eq (t : Fin 32768) (h : Fin 8) (e : Fin 2) (d : Fin 128) :
    val_main_v3 (F := Ideal) x w (ix4 t h e d) = query x w t ⟨(2 * h.val + e.val) * 128 + d.val, by omega⟩ := by
  rw [val_main_v3_apply, ← v2_eq]
  refine congrArg _ (funext fun b => Fin.ext ?_)
  match b with
  | ⟨0, _⟩ => show (((t.val * 8 + h.val) * 2 + e.val) * 128 + d.val) / 2048 = t.val; omega
  | ⟨1, _⟩ => show (((t.val * 8 + h.val) * 2 + e.val) * 128 + d.val) % 2048 = (2 * h.val + e.val) * 128 + d.val; omega

theorem v4_eq (h : Fin 8) (e : Fin 2) (n d : Fin 128) : val_main_v4 (F := Ideal) y (ix4 h e n d) = y (ix5 0 h e n d) := by
  rw [val_main_v4_apply]
  refine congrArg y (funext fun b => Fin.ext ?_)
  match b with
  | ⟨0, _⟩ => rfl
  | ⟨1, _⟩ => show (((h.val * 2 + e.val) * 128 + n.val) * 128 + d.val) / 32768 % 8 = h.val; omega
  | ⟨2, _⟩ => show (((h.val * 2 + e.val) * 128 + n.val) * 128 + d.val) / 16384 % 2 = e.val; omega
  | ⟨3, _⟩ => show (((h.val * 2 + e.val) * 128 + n.val) * 128 + d.val) / 128 % 128 = n.val; omega
  | ⟨4, _⟩ => show (((h.val * 2 + e.val) * 128 + n.val) * 128 + d.val) % 128 = d.val; omega

theorem v6_eq (t : Fin 32768) (h : Fin 8) (e : Fin 2) (n : Fin 128) : val_main_v6 (F := Ideal) x w y (ix4 t h e n) = score x w y h e n t := by
  rw [val_main_v6_apply, val_main_v5_apply]
  refine Finset.sum_congr rfl fun d _ => ?_
  have el : lidx_main_v5 (idx_main_v6 (ix4 t h e n)) d = ix4 h e n d := funext fun a => by
    match a with | ⟨0, _⟩ => rfl | ⟨1, _⟩ => rfl | ⟨2, _⟩ => rfl | ⟨3, _⟩ => rfl
  have er : ridx_main_v5 (idx_main_v6 (ix4 t h e n)) d = ix4 t h e d := funext fun a => by
    match a with | ⟨0, _⟩ => rfl | ⟨1, _⟩ => rfl | ⟨2, _⟩ => rfl | ⟨3, _⟩ => rfl
  rw [el, er, v3_eq, v4_eq]

theorem v8_eq (t : Fin 32768) (h : Fin 8) (n : Fin 128) : val_main_v8 (F := Ideal) x w y (ix3 t h n) = score x w y h 0 n t := by
  rw [val_main_v8_apply, val_main_v7_apply, ← v6_eq]
  refine congrArg _ (funext fun b => Fin.ext ?_)
  match b with
  | ⟨0, _⟩ => show ((t.val * 8 + h.val) * 128 + n.val) / 1024 = t.val; omega
  | ⟨1, _⟩ => show ((t.val * 8 + h.val) * 128 + n.val) / 128 % 8 = h.val; omega
  | ⟨2, _⟩ => rfl
  | ⟨3, _⟩ => show ((t.val * 8 + h.val) * 128 + n.val) % 128 = n.val; omega

theorem v10_eq (t : Fin 32768) (h : Fin 8) (n : Fin 128) : val_main_v10 (F := Ideal) x w y (ix3 t h n) = score x w y h 1 n t := by
  rw [val_main_v10_apply, val_main_v9_apply, ← v6_eq]
  refine congrArg _ (funext fun b => Fin.ext ?_)
  match b with
  | ⟨0, _⟩ => show ((t.val * 8 + h.val) * 128 + n.val) / 1024 = t.val; omega
  | ⟨1, _⟩ => show ((t.val * 8 + h.val) * 128 + n.val) / 128 % 8 = h.val; omega
  | ⟨2, _⟩ => rfl
  | ⟨3, _⟩ => show ((t.val * 8 + h.val) * 128 + n.val) % 128 = n.val; omega

/-- A maximum over the last axis. -/
theorem max_apply (z : FVec Ideal S32768x8x128 .f32) (hr : S32768x8x128.Reduces [2] S32768x8) (t : Fin 32768) (h : Fin 8) :
    (multiReduction .maximumf [2] S32768x8 z 0xFF800000#32 hr (.inl rfl) rfl : FVec Ideal S32768x8 .f32) (ix2 t h)
      = Finset.fold max (Ideal.ofBits FTy.f32 0xFF800000#32) (fun n => z (ix3 t h n)) Finset.univ := by
  pointwise []

theorem v11_eq (t : Fin 32768) (h : Fin 8) : val_main_v11 (F := Ideal) x w y (ix2 t h) = peak x w y h t := by
  have hr : S32768x8x128.Reduces [2] S32768x8 := by decide
  unfold val_main_v11 val_main_cst
  refine (congrFun (hostReduce_maximumf_eq_multiReduction (F := Ideal) _ _ _ _ hr (.inl rfl) rfl) (ix2 t h)).trans ((max_apply _ hr t h).trans ?_)
  unfold peak
  simp only [v8_eq]

theorem v13_eq (t : Fin 32768) (h : Fin 8) (n : Fin 128) : val_main_v13 (F := Ideal) x w y (ix3 t h n) = peak x w y h t := by
  rw [val_main_v13_apply, val_main_v12_apply, ← v11_eq]
  refine congrArg _ (funext fun b => ?_)
  match b with
  | ⟨0, _⟩ => rfl
  | ⟨1, _⟩ => rfl

theorem v15_eq (t : Fin 32768) (h : Fin 8) (n : Fin 128) :
    val_main_v15 (F := Ideal) x w y (ix3 t h n) = Ideal.exp (score x w y h 0 n t - peak x w y h t) := by
  rw [val_main_v15_apply, val_main_v14_apply, v8_eq, v13_eq]
  rfl

theorem at_transposed (i : S8x128x32768.Idx) : idx_main_v16 i = ix3 (i 2) (i 0) (i 1) := funext fun a => by
  match a with | ⟨0, _⟩ => rfl | ⟨1, _⟩ => rfl | ⟨2, _⟩ => rfl

theorem v16_eq : val_main_v16 (F := Ideal) x w y = res0 x w y := funext fun i => by
  rw [val_main_v16_apply, at_transposed]
  exact v8_eq x w y (i 2) (i 0) (i 1)

theorem v17_eq : val_main_v17 (F := Ideal) x w y = res1 x w y := funext fun i => by
  rw [val_main_v17_apply, show idx_main_v17 i = ix3 (i 2) (i 0) (i 1) from at_transposed i]
  exact v15_eq x w y (i 2) (i 0) (i 1)

theorem v18_eq : val_main_v18 (F := Ideal) x w y = res2 x w y := funext fun i => by
  rw [val_main_v18_apply, show idx_main_v18 i = ix3 (i 2) (i 0) (i 1) from at_transposed i]
  exact v10_eq x w y (i 2) (i 0) (i 1)

end Cert.RouteRefIdeal.Calc

end
-- ==== Proof.RouteClaims.lean ====
/-
  The claims of the routing: the kernel's scores of both halves, and the first half's exponentials, are the reference's.
-/
module

public import proofs.«01_k».proof.Defs
public import proofs.«01_k».proof.Proof.RouteFrame
public import proofs.«01_k».proof.Proof.RouteVal
public import proofs.«01_k».proof.Proof.RouteRefVal
public import Idealize.ShloMosaic.Adequacy
public import Idealize.ShloMosaic.Init

@[expose] public section

set_option maxRecDepth 16384

noncomputable section

open Idealize.ShloMosaic Idealize.ShloMosaic.TcCoe Idealize.SL.Sem

namespace RouteClaims

open Cert.RouteIdeal.Calc (res0 res1 res2)

theorem frame_p : Cert.quiescent_Route := fun m ρ _ => Cert.Route.Carry.frame m ρ
theorem frame_pi : Cert.quiescent_RouteIdeal := fun m ρ _ => Cert.RouteIdeal.Carry.frame m ρ
theorem frame_ri : Cert.quiescent_RouteRefIdeal := fun m ρ _ =>
  (θ_run Cert.RouteRefIdeal.defs _ _).mono (fun r h => ⟨fun c => (h c).2.2.2, Idealize.ShloMosaic.sem_eq_zero_of_no_sems (by decide) r.2⟩)
    (Cert.RouteRefIdeal.Value.run (F := Ideal) m ρ)

theorem preserves : Cert.preserves_Route_RouteIdeal := trivial

/-- The two halves' scores and the exponentials equal the reference's. -/
theorem algebraic : Cert.algebraic_RouteIdeal_RouteRefIdeal := by
  intro m g m' g' hpre hm
  refine ⟨fun c => res0 _ _ _, fun c => res1 _ _ _, fun c => res2 _ _ _, Cert.RouteIdeal.Calc.run m g,
    (θ_run Cert.RouteRefIdeal.defs _ _).mono (fun r h c => ⟨(h c).1.trans ?_, (h c).2.1.trans ?_, (h c).2.2.1.trans ?_, (h c).2.2.2⟩)
      (Cert.RouteRefIdeal.Value.run (F := Ideal) m' g')⟩
  · rw [Cert.RouteRefIdeal.Read.val_main_v16_eq, (hm c).1, (hm c).2.1, (hm c).2.2]
    exact Cert.RouteRefIdeal.Calc.v16_eq _ _ _
  · rw [Cert.RouteRefIdeal.Read.val_main_v17_eq, (hm c).1, (hm c).2.1, (hm c).2.2]
    exact Cert.RouteRefIdeal.Calc.v17_eq _ _ _
  · rw [Cert.RouteRefIdeal.Read.val_main_v18_eq, (hm c).1, (hm c).2.1, (hm c).2.2]
    exact Cert.RouteRefIdeal.Calc.v18_eq _ _ _

end RouteClaims

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Shift.Frame
public import proofs.«01_k».proof.Proof.Gen.Shift.Skeleton
public import proofs.«01_k».proof.Proof.Gen.ShiftIdeal.Frame
public import proofs.«01_k».proof.Proof.Gen.ShiftIdeal.Skeleton
public import proofs.«01_k».proof.Proof.Gen.ShiftRefIdeal.Run
public import proofs.«01_k».proof.Proof.Gen.ShiftRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Final.Frame
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.Route.Frame
public import proofs.«01_k».proof.Proof.Gen.RouteIdeal.Frame
public import proofs.«01_k».proof.Proof.Gen.RouteIdeal.Skeleton
public import proofs.«01_k».proof.Proof.Gen.RouteRefIdeal.Run
public import proofs.«01_k».proof.Proof.Gen.RouteRefIdeal.Read
public import proofs.«01_k».proof.Proof.Attn
public import proofs.«01_k».proof.Proof.Calls
public import proofs.«01_k».proof.Proof.ShiftClaims
public import proofs.«01_k».proof.Proof.RouteClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Proj.Gen.facts, Cert.ProjIdeal.Gen.facts, Cert.ProjRefIdeal.Gen.facts,
    Cert.Shift.Gen.facts, Cert.ShiftIdeal.Gen.facts, Cert.ShiftRefIdeal.Gen.facts,
    Cert.OutProj.Gen.facts, Cert.OutProjIdeal.Gen.facts, Cert.OutProjRefIdeal.Gen.facts,
    Cert.Final.Gen.facts, Cert.FinalIdeal.Gen.facts, Cert.FinalRefIdeal.Gen.facts,
    Cert.Route.Gen.facts, Cert.RouteIdeal.Gen.facts, Cert.RouteRefIdeal.Gen.facts, Cert.Pre_finite.facts,
    AttnClaims.frame_p, AttnClaims.frame_pi, AttnClaims.frame_pi_pre, AttnClaims.frame_ri, AttnClaims.frame_ri_pre,
    ProjClaims.frame_p, ProjClaims.frame_pi, ProjClaims.frame_ri,
    ShiftClaims.frame_p, ShiftClaims.frame_pi, ShiftClaims.frame_ri,
    OutClaims.frame_p, OutClaims.frame_pi, OutClaims.frame_ri,
    FinalClaims.frame_p, FinalClaims.frame_pi, FinalClaims.frame_ri,
    RouteClaims.frame_p, RouteClaims.frame_pi, RouteClaims.frame_ri,
    AttnClaims.preserves, AttnClaims.algebraic, ProjClaims.preserves, ProjClaims.algebraic,
    ShiftClaims.preserves, ShiftClaims.algebraic,
    OutClaims.preserves, OutClaims.algebraic, FinalClaims.preserves, FinalClaims.algebraic,
    RouteClaims.preserves, RouteClaims.algebraic⟩

end Cert.Proof

end
